-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1024x1024 : Shape := ⟨2, ![1024, 1024]⟩
abbrev S512x1024 : Shape := ⟨2, ![512, 1024]⟩
abbrev S16 : Shape := ⟨1, ![16]⟩
abbrev S_ : Shape := ⟨0, ![]⟩
abbrev S1x512x1024 : Shape := ⟨3, ![1, 512, 1024]⟩
abbrev S1 : Shape := ⟨1, ![1]⟩
abbrev S32x1024 : Shape := ⟨2, ![32, 1024]⟩
abbrev S1x32x1024 : Shape := ⟨3, ![1, 32, 1024]⟩
abbrev S1x1024 : Shape := ⟨2, ![1, 1024]⟩
abbrev S32 : Shape := ⟨1, ![32]⟩
abbrev S32x1 : Shape := ⟨2, ![32, 1]⟩

abbrev nBuf : Space → Nat
  | .hbm => 3
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1024, .f32⟩
  | .local _ .vmem, ⟨0, _⟩ => ⟨S1024x1024, .f32⟩
  | .local _ .vmem, ⟨1, _⟩ => ⟨S512x1024, .f32⟩
  | .local _ .vmem, ⟨2, _⟩ => ⟨S512x1024, .f32⟩
  | .local _ .vmem, ⟨3, _⟩ => ⟨S1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v11 : BitVec 32 := Scalar.muli v8 c1024_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v12 : BitVec 32 := Scalar.muli v2 c512_i32
  let v13 : BitVec 32 := Scalar.addi v11 v12
  let c0_i32_8 : BitVec 32 := 0#32
  ![0, v13.toNat, 0]
def k0_dev1 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v21 : BitVec 32 := Scalar.muli v2 c4_i32_10
  let v22 : BitVec 32 := Scalar.addi c0_i32_11 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v23 : BitVec 32 := Scalar.muli v5 c2_i32_12
  let v24 : BitVec 32 := Scalar.addi v22 v23
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_13 : BitVec 32 := 1#32
  let v25 : BitVec 32 := Scalar.muli v9 c1_i32_13
  let v26 : BitVec 32 := Scalar.addi v24 v25
  v26.toNat
def k0_dev2 (d0 : Dev nD) : Nat :=
  let c0_i32_16 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_15 : BitVec 32 := 4#32
  let v27 : BitVec 32 := Scalar.muli v10 c4_i32_15
  let v28 : BitVec 32 := Scalar.addi c0_i32_16 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v29 : BitVec 32 := Scalar.muli v5 c2_i32_17
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v31 : BitVec 32 := Scalar.muli v8 c1_i32_18
  let v32 : BitVec 32 := Scalar.addi v30 v31
  v32.toNat
def k0_off2 (d0 : Dev nD) (c0_i32_20 : BitVec 32) : Fin 3 → Nat :=
  let c0_i32_21 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1024_i32_6 : BitVec 32 := 1024#32
  let v15 : BitVec 32 := Scalar.muli v14 c1024_i32_6
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_7 : BitVec 32 := 512#32
  let v16 : BitVec 32 := Scalar.muli v2 c512_i32_7
  let v17 : BitVec 32 := Scalar.addi v15 v16
  let v33 : BitVec 32 := Scalar.addi v17 c0_i32_20
  let c0_i32_30 : BitVec 32 := 0#32
  ![0, v33.toNat, 0]
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v34 : BitVec 32 := Scalar.muli v2 c4_i32_24
  let v35 : BitVec 32 := Scalar.addi c0_i32_25 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v36 : BitVec 32 := Scalar.muli v5 c2_i32_26
  let v37 : BitVec 32 := Scalar.addi v35 v36
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v38 : BitVec 32 := Scalar.muli v9 c1_i32_27
  let v39 : BitVec 32 := Scalar.addi v37 v38
  v39.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v48 : BitVec 32 := Scalar.muli v2 c4_i32_34
  let v49 : BitVec 32 := Scalar.addi c0_i32_35 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v50 : BitVec 32 := Scalar.muli v5 c2_i32_36
  let v51 : BitVec 32 := Scalar.addi v49 v50
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_37 : BitVec 32 := 1#32
  let v52 : BitVec 32 := Scalar.muli v9 c1_i32_37
  let v53 : BitVec 32 := Scalar.addi v51 v52
  v53.toNat
def k0_dev5 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v64 : BitVec 32 := Scalar.muli v5 c2_i32_46
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_47 : BitVec 32 := 1#32
  let v66 : BitVec 32 := Scalar.muli v9 c1_i32_47
  let v67 : BitVec 32 := Scalar.addi v65 v66
  v67.toNat
def k0_dev6 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v76 : BitVec 32 := Scalar.muli v2 c4_i32_53
  let v77 : BitVec 32 := Scalar.addi c0_i32_54 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v78 : BitVec 32 := Scalar.muli v5 c2_i32_55
  let v79 : BitVec 32 := Scalar.addi v77 v78
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_56 : BitVec 32 := 1#32
  let v80 : BitVec 32 := Scalar.muli v9 c1_i32_56
  let v81 : BitVec 32 := Scalar.addi v79 v80
  v81.toNat
def k0_dev7 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v90 : BitVec 32 := Scalar.muli v2 c4_i32_63
  let v91 : BitVec 32 := Scalar.addi c0_i32_64 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v92 : BitVec 32 := Scalar.muli v5 c2_i32_65
  let v93 : BitVec 32 := Scalar.addi v91 v92
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_66 : BitVec 32 := 1#32
  let v94 : BitVec 32 := Scalar.muli v9 c1_i32_66
  let v95 : BitVec 32 := Scalar.addi v93 v94
  v95.toNat
def k0_dev8 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v104 : BitVec 32 := Scalar.muli v2 c4_i32_72
  let v105 : BitVec 32 := Scalar.addi c0_i32_73 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v106 : BitVec 32 := Scalar.muli v5 c2_i32_74
  let v107 : BitVec 32 := Scalar.addi v105 v106
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_75 : BitVec 32 := 1#32
  let v108 : BitVec 32 := Scalar.muli v9 c1_i32_75
  let v109 : BitVec 32 := Scalar.addi v107 v108
  v109.toNat
def k0_dev9 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v118 : BitVec 32 := Scalar.muli v2 c4_i32_81
  let v119 : BitVec 32 := Scalar.addi c0_i32_82 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v120 : BitVec 32 := Scalar.muli v5 c2_i32_83
  let v121 : BitVec 32 := Scalar.addi v119 v120
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_84 : BitVec 32 := 1#32
  let v122 : BitVec 32 := Scalar.muli v9 c1_i32_84
  let v123 : BitVec 32 := Scalar.addi v121 v122
  v123.toNat
def k0_dev10 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v132 : BitVec 32 := Scalar.muli v2 c4_i32_90
  let v133 : BitVec 32 := Scalar.addi c0_i32_91 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v134 : BitVec 32 := Scalar.muli v5 c2_i32_92
  let v135 : BitVec 32 := Scalar.addi v133 v134
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_93 : BitVec 32 := 1#32
  let v136 : BitVec 32 := Scalar.muli v9 c1_i32_93
  let v137 : BitVec 32 := Scalar.addi v135 v136
  v137.toNat
def k0_dev11 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v146 : BitVec 32 := Scalar.muli v2 c4_i32_99
  let v147 : BitVec 32 := Scalar.addi c0_i32_100 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v148 : BitVec 32 := Scalar.muli v5 c2_i32_101
  let v149 : BitVec 32 := Scalar.addi v147 v148
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_102 : BitVec 32 := 1#32
  let v150 : BitVec 32 := Scalar.muli v9 c1_i32_102
  let v151 : BitVec 32 := Scalar.addi v149 v150
  v151.toNat
def k0_dev12 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v160 : BitVec 32 := Scalar.muli v2 c4_i32_108
  let v161 : BitVec 32 := Scalar.addi c0_i32_109 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v162 : BitVec 32 := Scalar.muli v5 c2_i32_110
  let v163 : BitVec 32 := Scalar.addi v161 v162
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_111 : BitVec 32 := 1#32
  let v164 : BitVec 32 := Scalar.muli v9 c1_i32_111
  let v165 : BitVec 32 := Scalar.addi v163 v164
  v165.toNat
def k0_dev13 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v174 : BitVec 32 := Scalar.muli v2 c4_i32_117
  let v175 : BitVec 32 := Scalar.addi c0_i32_118 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v176 : BitVec 32 := Scalar.muli v5 c2_i32_119
  let v177 : BitVec 32 := Scalar.addi v175 v176
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_120 : BitVec 32 := 1#32
  let v178 : BitVec 32 := Scalar.muli v9 c1_i32_120
  let v179 : BitVec 32 := Scalar.addi v177 v178
  v179.toNat
def k0_dev14 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v188 : BitVec 32 := Scalar.muli v2 c4_i32_126
  let v189 : BitVec 32 := Scalar.addi c0_i32_127 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v190 : BitVec 32 := Scalar.muli v5 c2_i32_128
  let v191 : BitVec 32 := Scalar.addi v189 v190
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_129 : BitVec 32 := 1#32
  let v192 : BitVec 32 := Scalar.muli v9 c1_i32_129
  let v193 : BitVec 32 := Scalar.addi v191 v192
  v193.toNat
def k0_dev15 (d0 : Dev nD) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_135 : BitVec 32 := 4#32
  let v202 : BitVec 32 := Scalar.muli v2 c4_i32_135
  let v203 : BitVec 32 := Scalar.addi c0_i32_136 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v204 : BitVec 32 := Scalar.muli v5 c2_i32_137
  let v205 : BitVec 32 := Scalar.addi v203 v204
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_138 : BitVec 32 := 1#32
  let v206 : BitVec 32 := Scalar.muli v9 c1_i32_138
  let v207 : BitVec 32 := Scalar.addi v205 v206
  v207.toNat
def k0_dev16 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v216 : BitVec 32 := Scalar.muli v2 c4_i32_144
  let v217 : BitVec 32 := Scalar.addi c0_i32_145 v216
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v218 : BitVec 32 := Scalar.muli v5 c2_i32_146
  let v219 : BitVec 32 := Scalar.addi v217 v218
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_147 : BitVec 32 := 1#32
  let v220 : BitVec 32 := Scalar.muli v9 c1_i32_147
  let v221 : BitVec 32 := Scalar.addi v219 v220
  v221.toNat
def k0_dev17 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v230 : BitVec 32 := Scalar.muli v2 c4_i32_153
  let v231 : BitVec 32 := Scalar.addi c0_i32_154 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v232 : BitVec 32 := Scalar.muli v5 c2_i32_155
  let v233 : BitVec 32 := Scalar.addi v231 v232
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_156 : BitVec 32 := 1#32
  let v234 : BitVec 32 := Scalar.muli v9 c1_i32_156
  let v235 : BitVec 32 := Scalar.addi v233 v234
  v235.toNat
def k0_dev18 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v244 : BitVec 32 := Scalar.muli v2 c4_i32_162
  let v245 : BitVec 32 := Scalar.addi c0_i32_163 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v246 : BitVec 32 := Scalar.muli v5 c2_i32_164
  let v247 : BitVec 32 := Scalar.addi v245 v246
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_165 : BitVec 32 := 1#32
  let v248 : BitVec 32 := Scalar.muli v9 c1_i32_165
  let v249 : BitVec 32 := Scalar.addi v247 v248
  v249.toNat
def k0_off3 (d0 : Dev nD) (c0_i32_182 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_181 : BitVec 32 := 512#32
  let v272 : BitVec 32 := Scalar.muli v2 c512_i32_181
  let v273 : BitVec 32 := Scalar.addi v272 c0_i32_182
  let v289 : Index := Scalar.indexCast v273
  let c0_189 : Index := 0#32
  ![v289.toNat, 0]
def k0_off4 (d0 : Dev nD) (c0_i32_182 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_181 : BitVec 32 := 512#32
  let v272 : BitVec 32 := Scalar.muli v2 c512_i32_181
  let v273 : BitVec 32 := Scalar.addi v272 c0_i32_182
  let c0_i32_196 : BitVec 32 := 0#32
  ![v273.toNat, 0]
def k0_dev19 (d0 : Dev nD) : Nat :=
  let c0_i32_193 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_192 : BitVec 32 := 4#32
  let v291 : BitVec 32 := Scalar.muli v10 c4_i32_192
  let v292 : BitVec 32 := Scalar.addi c0_i32_193 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_194 : BitVec 32 := 2#32
  let v293 : BitVec 32 := Scalar.muli v5 c2_i32_194
  let v294 : BitVec 32 := Scalar.addi v292 v293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v295 : BitVec 32 := Scalar.muli v8 c1_i32_195
  let v296 : BitVec 32 := Scalar.addi v294 v295
  v296.toNat
def k0_dev20 (d0 : Dev nD) : Nat :=
  let c0_i32_220 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_219 : BitVec 32 := 4#32
  let v333 : BitVec 32 := Scalar.muli v10 c4_i32_219
  let v334 : BitVec 32 := Scalar.addi c0_i32_220 v333
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v335 : BitVec 32 := Scalar.muli v5 c2_i32_221
  let v336 : BitVec 32 := Scalar.addi v334 v335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v337 : BitVec 32 := Scalar.muli v8 c1_i32_222
  let v338 : BitVec 32 := Scalar.addi v336 v337
  v338.toNat
def k0_dev21 (d0 : Dev nD) : Nat :=
  let c0_i32_247 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_246 : BitVec 32 := 4#32
  let v375 : BitVec 32 := Scalar.muli v10 c4_i32_246
  let v376 : BitVec 32 := Scalar.addi c0_i32_247 v375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v377 : BitVec 32 := Scalar.muli v5 c2_i32_248
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v379 : BitVec 32 := Scalar.muli v8 c1_i32_249
  let v380 : BitVec 32 := Scalar.addi v378 v379
  v380.toNat
def k0_dev22 (d0 : Dev nD) : Nat :=
  let c0_i32_274 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_273 : BitVec 32 := 4#32
  let v417 : BitVec 32 := Scalar.muli v10 c4_i32_273
  let v418 : BitVec 32 := Scalar.addi c0_i32_274 v417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_275 : BitVec 32 := 2#32
  let v419 : BitVec 32 := Scalar.muli v5 c2_i32_275
  let v420 : BitVec 32 := Scalar.addi v418 v419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v421 : BitVec 32 := Scalar.muli v8 c1_i32_276
  let v422 : BitVec 32 := Scalar.addi v420 v421
  v422.toNat
def k0_dev23 (d0 : Dev nD) : Nat :=
  let c0_i32_301 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_300 : BitVec 32 := 4#32
  let v459 : BitVec 32 := Scalar.muli v10 c4_i32_300
  let v460 : BitVec 32 := Scalar.addi c0_i32_301 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v461 : BitVec 32 := Scalar.muli v5 c2_i32_302
  let v462 : BitVec 32 := Scalar.addi v460 v461
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v463 : BitVec 32 := Scalar.muli v8 c1_i32_303
  let v464 : BitVec 32 := Scalar.addi v462 v463
  v464.toNat
def k0_dev24 (d0 : Dev nD) : Nat :=
  let c0_i32_328 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_327 : BitVec 32 := 4#32
  let v501 : BitVec 32 := Scalar.muli v10 c4_i32_327
  let v502 : BitVec 32 := Scalar.addi c0_i32_328 v501
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v503 : BitVec 32 := Scalar.muli v5 c2_i32_329
  let v504 : BitVec 32 := Scalar.addi v502 v503
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v505 : BitVec 32 := Scalar.muli v8 c1_i32_330
  let v506 : BitVec 32 := Scalar.addi v504 v505
  v506.toNat
def k0_dev25 (d0 : Dev nD) : Nat :=
  let c0_i32_355 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_354 : BitVec 32 := 4#32
  let v543 : BitVec 32 := Scalar.muli v10 c4_i32_354
  let v544 : BitVec 32 := Scalar.addi c0_i32_355 v543
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v545 : BitVec 32 := Scalar.muli v5 c2_i32_356
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v547 : BitVec 32 := Scalar.muli v8 c1_i32_357
  let v548 : BitVec 32 := Scalar.addi v546 v547
  v548.toNat
def k0_dev26 (d0 : Dev nD) : Nat :=
  let c0_i32_382 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_381 : BitVec 32 := 4#32
  let v585 : BitVec 32 := Scalar.muli v10 c4_i32_381
  let v586 : BitVec 32 := Scalar.addi c0_i32_382 v585
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_383 : BitVec 32 := 2#32
  let v587 : BitVec 32 := Scalar.muli v5 c2_i32_383
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_384 : BitVec 32 := 1#32
  let v589 : BitVec 32 := Scalar.muli v8 c1_i32_384
  let v590 : BitVec 32 := Scalar.addi v588 v589
  v590.toNat
def k0_dev27 (d0 : Dev nD) : Nat :=
  let c0_i32_409 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_408 : BitVec 32 := 4#32
  let v627 : BitVec 32 := Scalar.muli v10 c4_i32_408
  let v628 : BitVec 32 := Scalar.addi c0_i32_409 v627
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v629 : BitVec 32 := Scalar.muli v5 c2_i32_410
  let v630 : BitVec 32 := Scalar.addi v628 v629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_411 : BitVec 32 := 1#32
  let v631 : BitVec 32 := Scalar.muli v8 c1_i32_411
  let v632 : BitVec 32 := Scalar.addi v630 v631
  v632.toNat
def k0_dev28 (d0 : Dev nD) : Nat :=
  let c0_i32_436 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_435 : BitVec 32 := 4#32
  let v669 : BitVec 32 := Scalar.muli v10 c4_i32_435
  let v670 : BitVec 32 := Scalar.addi c0_i32_436 v669
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_437 : BitVec 32 := 2#32
  let v671 : BitVec 32 := Scalar.muli v5 c2_i32_437
  let v672 : BitVec 32 := Scalar.addi v670 v671
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v673 : BitVec 32 := Scalar.muli v8 c1_i32_438
  let v674 : BitVec 32 := Scalar.addi v672 v673
  v674.toNat
def k0_dev29 (d0 : Dev nD) : Nat :=
  let c0_i32_463 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_462 : BitVec 32 := 4#32
  let v711 : BitVec 32 := Scalar.muli v10 c4_i32_462
  let v712 : BitVec 32 := Scalar.addi c0_i32_463 v711
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_464 : BitVec 32 := 2#32
  let v713 : BitVec 32 := Scalar.muli v5 c2_i32_464
  let v714 : BitVec 32 := Scalar.addi v712 v713
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_465 : BitVec 32 := 1#32
  let v715 : BitVec 32 := Scalar.muli v8 c1_i32_465
  let v716 : BitVec 32 := Scalar.addi v714 v715
  v716.toNat
def k0_dev30 (d0 : Dev nD) : Nat :=
  let c0_i32_490 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_489 : BitVec 32 := 4#32
  let v753 : BitVec 32 := Scalar.muli v10 c4_i32_489
  let v754 : BitVec 32 := Scalar.addi c0_i32_490 v753
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_491 : BitVec 32 := 2#32
  let v755 : BitVec 32 := Scalar.muli v5 c2_i32_491
  let v756 : BitVec 32 := Scalar.addi v754 v755
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_492 : BitVec 32 := 1#32
  let v757 : BitVec 32 := Scalar.muli v8 c1_i32_492
  let v758 : BitVec 32 := Scalar.addi v756 v757
  v758.toNat
def k0_dev31 (d0 : Dev nD) : Nat :=
  let c0_i32_517 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_516 : BitVec 32 := 4#32
  let v795 : BitVec 32 := Scalar.muli v10 c4_i32_516
  let v796 : BitVec 32 := Scalar.addi c0_i32_517 v795
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_518 : BitVec 32 := 2#32
  let v797 : BitVec 32 := Scalar.muli v5 c2_i32_518
  let v798 : BitVec 32 := Scalar.addi v796 v797
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_519 : BitVec 32 := 1#32
  let v799 : BitVec 32 := Scalar.muli v8 c1_i32_519
  let v800 : BitVec 32 := Scalar.addi v798 v799
  v800.toNat
def k0_dev32 (d0 : Dev nD) : Nat :=
  let c0_i32_544 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_543 : BitVec 32 := 4#32
  let v837 : BitVec 32 := Scalar.muli v10 c4_i32_543
  let v838 : BitVec 32 := Scalar.addi c0_i32_544 v837
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_545 : BitVec 32 := 2#32
  let v839 : BitVec 32 := Scalar.muli v5 c2_i32_545
  let v840 : BitVec 32 := Scalar.addi v838 v839
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_546 : BitVec 32 := 1#32
  let v841 : BitVec 32 := Scalar.muli v8 c1_i32_546
  let v842 : BitVec 32 := Scalar.addi v840 v841
  v842.toNat
def k0_dev33 (d0 : Dev nD) : Nat :=
  let c0_i32_571 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_570 : BitVec 32 := 4#32
  let v879 : BitVec 32 := Scalar.muli v10 c4_i32_570
  let v880 : BitVec 32 := Scalar.addi c0_i32_571 v879
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_572 : BitVec 32 := 2#32
  let v881 : BitVec 32 := Scalar.muli v5 c2_i32_572
  let v882 : BitVec 32 := Scalar.addi v880 v881
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_573 : BitVec 32 := 1#32
  let v883 : BitVec 32 := Scalar.muli v8 c1_i32_573
  let v884 : BitVec 32 := Scalar.addi v882 v883
  v884.toNat
def k0_dev34 (d0 : Dev nD) : Nat :=
  let c0_i32_598 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_597 : BitVec 32 := 4#32
  let v921 : BitVec 32 := Scalar.muli v10 c4_i32_597
  let v922 : BitVec 32 := Scalar.addi c0_i32_598 v921
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_599 : BitVec 32 := 2#32
  let v923 : BitVec 32 := Scalar.muli v5 c2_i32_599
  let v924 : BitVec 32 := Scalar.addi v922 v923
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_600 : BitVec 32 := 1#32
  let v925 : BitVec 32 := Scalar.muli v8 c1_i32_600
  let v926 : BitVec 32 := Scalar.addi v924 v925
  v926.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Program.lean ====
/- The kernel's body written as a program with loops.

   The printed body is one long list of operations in which the sixteen chunks of each of its three loops
   stand one after the other. Here each loop is a fold over the list of the sixteen chunk numbers, each
   operation stated once for a chunk number `k` and a device `d`; `body_eq` says that the printed body is that
   program. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Norm

open Cert.KernelIdeal Cert.KernelIdeal.Gen
open Idealize.ShloMosaic Idealize.ShloMosaic.TcCoe
open Idealize.SL Idealize.SL.Sem

variable {F : FTy → Type} [FloatOps F]

/-- Programs of the kernel's body. -/
abbrev PR (F : FTy → Type) [FloatOps F] : Type 1 := Prog (TpuEff nD τ sig (Elt F) Λ₀ .tc) PUnit

/-! ## The buffers -/

/-- The device's half of the partial sums, in its main memory. -/
abbrev pM : Memref sig .tc .hbm S1x2048x1024 .f32 := Memref.whole main_arg0
/-- The gains, in its main memory. -/
abbrev gM : Memref sig .tc .hbm S1024 .f32 := Memref.whole main_arg1
/-- The result block. -/
abbrev oM : Memref sig .tc .vmem S1024x1024 .f32 := Memref.whole cc0_stg0_0
/-- The landing buffer for the rows of the device across `z`. -/
abbrev zM : Memref sig .tc .vmem S512x1024 .f32 := Memref.whole cc0_scratch0
/-- The device's own rows. -/
abbrev lM : Memref sig .tc .vmem S512x1024 .f32 := Memref.whole cc0_scratch1
/-- The gains, on chip. -/
abbrev gbM : Memref sig .tc .vmem S1024 .f32 := Memref.whole cc0_scratch2

/-! ## The pieces of them a chunk `k` names -/

/-- The first row of chunk `k` within a half, as a word. -/
abbrev row (k : Fin 16) : BitVec 32 := BitVec.ofNat 32 (32 * k.val)

theorem inb_sem (k : Fin 16) : ∀ a, (![k.val] : Fin 1 → Nat) a + S1.size a ≤ S16.size a := by revert k; decide
theorem inb_chunk (k : Fin 16) : ∀ a, (![32 * k.val, 0] : Fin 2 → Nat) a + S32x1024.size a ≤ S512x1024.size a := by
  revert k; decide

/-- Semaphore `k` of an array of sixteen. -/
abbrev semAt (A : DmaSems sig S16) (k : Fin 16) : DmaSem sig :=
  ((A.slice (Rect.unit (s := S16) ![k.val] S1.size (inb_sem k))).squeeze S_ squeezes_S1_S_).sem

/-- The rows of chunk `k` in a buffer of 512 rows. -/
abbrev chunkR (k : Fin 16) : Rect S512x1024 := Rect.unit (s := S512x1024) ![32 * k.val, 0] S32x1024.size (inb_chunk k)
/-- The rows of chunk `k` of device `d`'s half of the result block, -/
abbrev outR (d : Dev nD) (k : Fin 16) : Rect S1024x1024 :=
  Rect.unit (s := S1024x1024) (k0_off4 d (row k)) S32x1024.size (k0_off4_inb d k)
/-- and the same rows as the load and the store compute them. -/
abbrev outR' (d : Dev nD) (k : Fin 16) : Rect S1024x1024 :=
  Rect.unit (s := S1024x1024) (k0_off3 d (row k)) S32x1024.size (k0_off3_inb d k)

/-- The device's own rows in main memory: the rows its block of the result sums. -/
abbrev srcL (d : Dev nD) : Memref sig .tc .hbm S512x1024 .f32 :=
  (pM.slice (Rect.unit (s := S1x2048x1024) (k0_off1 d) S1x512x1024.size (k0_off1_inb d)) (fun _ => rfl)).squeeze
    S512x1024 squeezes_S1x512x1024_S512x1024
/-- Chunk `k` of the rows device `d` sends across `z`. -/
abbrev srcZ (d : Dev nD) (k : Fin 16) : Memref sig .tc .hbm S32x1024 .f32 :=
  (pM.slice (Rect.unit (s := S1x2048x1024) (k0_off2 d (row k)) S1x32x1024.size (k0_off2_inb d k)) (fun _ => rfl)).squeeze
    S32x1024 squeezes_S1x32x1024_S32x1024
/-- Where chunk `k` lands. -/
abbrev dstZ (k : Fin 16) : Memref sig .tc .vmem S32x1024 .f32 := zM.slice (chunkR k) (fun _ => rfl)
/-- Chunk `k` of device `d`'s half of the result block. -/
abbrev outK (d : Dev nD) (k : Fin 16) : Memref sig .tc .vmem S32x1024 .f32 := oM.slice (outR d k) (fun _ => rfl)

/-! ## The devices it talks to, and its arithmetic -/

/-- The device across `z`, as the body computes it, -/
abbrev devZ (d : Dev nD) : Dev nD := ⟨k0_dev3 d, k0_dev3_lt d⟩
/-- and the device across `x`. -/
abbrev devX (d : Dev nD) : Dev nD := ⟨k0_dev19 d, k0_dev19_lt d⟩

/-- One chunk of the result: the sum of the two chunks, each row over its root mean square, times the gains. -/
abbrev normK (g : Vec F S1024 .f32) (a b : Vec F S32x1024 .f32) : Vec F S32x1024 .f32 := k0_pay6 (k0_pay1 g) a b

/-- The sixteen chunks in order. -/
abbrev chunks : List (Fin 16) := [0, 1, 2, 3, 4, 5, 6, 7, 8, 9, 10, 11, 12, 13, 14, 15]

/-! ## The program -/

/-- Start the copies across `z` of the chunks `ks`. -/
def sendsZ (d : Dev nD) (ks : List (Fin 16)) (K : PR F) : PR F :=
  ks.foldr (fun k K => .op (.enqueueDma (srcZ d k) (.remote (Dev.tc (devZ d)) (dstZ k) (.dma (semAt cc0_scratch3 k)))
    (.dma (semAt cc0_scratch4 k)) ((View.wordExact_bits rfl).reshape _ _) (View.wordExact_bits rfl)
    ⟨⟨rfl, Or.inl rfl⟩, trivial⟩) fun _ => K) K

/-- For each chunk of `ks`: wait for it, sum and normalise it, store it, start its copy across `x`. -/
def rounds (d : Dev nD) (g : Vec F S1024 .f32) (ks : List (Fin 16)) (K : PR F) : PR F :=
  ks.foldr (fun k K =>
    .op (.waitDma2 (semAt cc0_scratch4 k) (srcZ d k) (dstZ k) ((View.wordExact_bits rfl).reshape _ _) (View.wordExact_bits rfl)) fun _ =>
    .op (.load lM (chunkR k).toLoadRect (View.loadsAt_vmem h_S32x1024)) fun a =>
    .op (.load zM (chunkR k).toLoadRect (View.loadsAt_vmem h_S32x1024)) fun b =>
    .op (.load oM (outR' d k).toLoadRect (View.loadsAt_vmem h_S32x1024)) fun _ =>
    .op (.store oM (outR' d k) (normK g a b) Finset.univ (View.stores_vmem_bits_univ h_S32x1024 rfl) (.inl rfl)) fun _ =>
    .op (.enqueueDma (outK d k) (.remote (Dev.tc (devX d)) (outK d k) (.dma (semAt cc0_scratch5 k)))
      (.dma (semAt cc0_scratch6 k)) (View.wordExact_bits rfl) (View.wordExact_bits rfl) ⟨⟨rfl, Or.inl rfl⟩, trivial⟩) fun _ =>
    K) K

/-- For each chunk of `ks`: wait for its copies to have left and for the other device's chunk. -/
def drains (d : Dev nD) (ks : List (Fin 16)) (K : PR F) : PR F :=
  ks.foldr (fun k K =>
    .op (.waitDma2 (semAt cc0_scratch3 k) (dstZ k) (srcZ d k) (View.wordExact_bits rfl) ((View.wordExact_bits rfl).reshape _ _)) fun _ =>
    .op (.waitDma2 (semAt cc0_scratch5 k) (outK d k) (outK d k) (View.wordExact_bits rfl) (View.wordExact_bits rfl)) fun _ =>
    .op (.waitDma2 (semAt cc0_scratch6 k) (outK d k) (outK d k) (View.wordExact_bits rfl) (View.wordExact_bits rfl)) fun _ =>
    K) K

/-- The semaphore both neighbours signal on entry. -/
abbrev barS : Sem sig := (SemArray.scalar (sig.barrier 0 rfl) : Sems sig S_).sem

/-- The body. -/
def prog : PR F :=
  .op .deviceId fun d =>
  .op (.enqueueDma (srcL d) (.here lM) (.dma cc0_scratch7.sem) ((View.wordExact_bits rfl).reshape _ _)
    (Memref.isWhole_whole cc0_scratch1).wordExact ⟨Or.inl rfl, trivial⟩) fun _ =>
  .op (.enqueueDma gM (.here gbM) (.dma cc0_scratch8.sem) (Memref.isWhole_whole main_arg1).wordExact
    (Memref.isWhole_whole cc0_scratch2).wordExact ⟨Or.inl rfl, trivial⟩) fun _ =>
  (semSignalWord (devZ d) barS 1#32).bind fun _ =>
  (semSignalWord (devX d) barS 1#32).bind fun _ =>
  (semWaitWord barS 2#32).bind fun _ =>
  sendsZ d chunks <|
  .op (.waitDma2 cc0_scratch8.sem gM gbM (Memref.isWhole_whole main_arg1).wordExact (Memref.isWhole_whole cc0_scratch2).wordExact) fun _ =>
  .op (.load gbM (Rect.unit (s := S1024) ![0] S1024.size inb_S1024_S1024_0).toLoadRect (View.loadsAt_vmem h_S1024)) fun g =>
  .op (.waitDma2 cc0_scratch7.sem (srcL d) lM ((View.wordExact_bits rfl).reshape _ _) (Memref.isWhole_whole cc0_scratch1).wordExact) fun _ =>
  rounds d g chunks <|
  drains d chunks <|
  .ret ⟨⟩

set_option maxRecDepth 65536 in
set_option maxHeartbeats 4000000 in
/-- The printed body is `prog`. -/
theorem body_eq :
    cc0_body (F := F) pM (Memref.isWhole_whole _) gM (Memref.isWhole_whole _) oM (Memref.isWhole_whole _) zM (Memref.isWhole_whole _)
      lM (Memref.isWhole_whole _) gbM (Memref.isWhole_whole _) cc0_scratch3 cc0_scratch4 cc0_scratch5 cc0_scratch6 cc0_scratch7 cc0_scratch8
    = prog := by
  rfl

end Cert.Norm

end
-- ==== Proof.Contents.lean ====
/- What the buffers hold, and how they fall into the pieces that travel.

   Devices stand in pairs twice: `devZ` pairs those that hold the two partial sums of one block of rows, `devX` pairs
   those that share the block's work half and half. Everything a copy moves is one of sixteen chunks of 32 rows. -/
module

public import proofs.«01_k».proof.Proof.Program
public import Idealize.ShloMosaic.Lib.Pipeline.Launch
public import Idealize.ShloMosaic.Lib.Pipeline.Kit
public import Idealize.ShloMosaic.Lib.Pipeline.BigSepL
public import Idealize.ShloMosaic.Lib.ValueLayout
public import Idealize.ShloMosaic.Lib.Tactic

@[expose] public section

noncomputable section

namespace Cert.Norm

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-! ## The two pairings -/

theorem devZ_devZ (c : Dev nD) : devZ (devZ c) = c := by revert c; decide
theorem devX_devX (c : Dev nD) : devX (devX c) = c := by revert c; decide
theorem devZ_val (c : Dev nD) : (devZ c).val = (4 * (c.val / 4) + 2 * ((c.val / 2) % 2) + 1) - c.val % 2 := k0_dev3_eq c
theorem devX_val (c : Dev nD) : (devX c).val = (2 * ((c.val / 2) % 2) + c.val % 2 + 4) - 4 * (c.val / 4) := k0_dev19_eq c
theorem lt8 (c : Dev nD) : c.val < 8 := c.isLt

/-! ## Where the pieces lie -/

theorem off1_eq (c : Dev nD) : k0_off1 c = ![0, 1024 * (c.val % 2) + 512 * (c.val / 4), 0] := k0_off1_eq c
theorem off2_eq (c : Dev nD) (k : Fin 16) :
    k0_off2 c (row k) = ![0, (512 * (c.val / 4) + 32 * k.val + 1024) - 1024 * (c.val % 2), 0] := k0_off2_eq c k
theorem off3_eq (c : Dev nD) (k : Fin 16) : k0_off3 c (row k) = ![512 * (c.val / 4) + 32 * k.val, 0] := k0_off3_eq c k
theorem off4_eq (c : Dev nD) (k : Fin 16) : k0_off4 c (row k) = ![512 * (c.val / 4) + 32 * k.val, 0] := k0_off4_eq c k

theorem outR'_eq (c : Dev nD) (k : Fin 16) : outR' c k = outR c k :=
  Rect.unit_congr ((off3_eq c k).trans (off4_eq c k).symm) _ _

/-- The own rows, by row number. -/
theorem mem_srcL (c : Dev nD) (i : S1x2048x1024.Idx) :
    i ∈ (srcL c).view.set ↔ 1024 * (c.val % 2) + 512 * (c.val / 4) ≤ (i 1).val ∧ (i 1).val < 1024 * (c.val % 2) + 512 * (c.val / 4) + 512 := by
  have hs : (srcL c).view.set = (Rect.unit (s := S1x2048x1024) (k0_off1 c) S1x512x1024.size (k0_off1_inb c)).set :=
    (View.set_reshape _ _).trans (View.set_slice_whole _ _)
  refine (iff_of_eq (congrArg (i ∈ ·) hs)).trans ?_
  rw [Rect.mem_set_unit, off1_eq]
  have h0 := (i 0).isLt
  have h2 := (i 2).isLt
  constructor
  · intro h; exact h 1
  · intro h a
    fin_cases a
    · exact ⟨Nat.zero_le _, h0⟩
    · exact h
    · exact ⟨Nat.zero_le _, by simpa using h2⟩

/-- A sent chunk, by row number. -/
theorem mem_srcZ (c : Dev nD) (k : Fin 16) (i : S1x2048x1024.Idx) :
    i ∈ (srcZ c k).view.set ↔ (512 * (c.val / 4) + 32 * k.val + 1024) - 1024 * (c.val % 2) ≤ (i 1).val
      ∧ (i 1).val < (512 * (c.val / 4) + 32 * k.val + 1024) - 1024 * (c.val % 2) + 32 := by
  have hs : (srcZ c k).view.set = (Rect.unit (s := S1x2048x1024) (k0_off2 c (row k)) S1x32x1024.size (k0_off2_inb c k)).set :=
    (View.set_reshape _ _).trans (View.set_slice_whole _ _)
  refine (iff_of_eq (congrArg (i ∈ ·) hs)).trans ?_
  rw [Rect.mem_set_unit, off2_eq]
  have h0 := (i 0).isLt
  have h2 := (i 2).isLt
  constructor
  · intro h; exact h 1
  · intro h a
    fin_cases a
    · exact ⟨Nat.zero_le _, h0⟩
    · exact h
    · exact ⟨Nat.zero_le _, by simpa using h2⟩

theorem mem_dstZ (k : Fin 16) (i : S512x1024.Idx) :
    i ∈ (dstZ k).view.set ↔ 32 * k.val ≤ (i 0).val ∧ (i 0).val < 32 * k.val + 32 := by
  refine (iff_of_eq (congrArg (i ∈ ·) (View.set_slice_whole cc0_scratch0 (chunkR k)))).trans ?_
  rw [Rect.mem_set_unit]
  have h1 := (i 1).isLt
  constructor
  · intro h; exact h 0
  · intro h a
    fin_cases a
    · exact h
    · exact ⟨Nat.zero_le _, by simpa using h1⟩

theorem mem_outK (c : Dev nD) (k : Fin 16) (i : S1024x1024.Idx) :
    i ∈ (outK c k).view.set ↔ 512 * (c.val / 4) + 32 * k.val ≤ (i 0).val ∧ (i 0).val < 512 * (c.val / 4) + 32 * k.val + 32 := by
  refine (iff_of_eq (congrArg (i ∈ ·) (View.set_slice_whole cc0_stg0_0 (outR c k)))).trans ?_
  rw [Rect.mem_set_unit, off4_eq]
  have h1 := (i 1).isLt
  constructor
  · intro h; exact h 0
  · intro h a
    fin_cases a
    · exact h
    · exact ⟨Nat.zero_le _, by simpa using h1⟩

/-! ## The pieces of one buffer are apart, and make it up -/

/-- The indices of chunk `k` in main memory. -/
abbrev setZ (c : Dev nD) (k : Fin 16) : Finset S1x2048x1024.Idx := (srcZ c k).view.set
theorem srcZ_disjoint (c : Dev nD) (k k' : Fin 16) (h : k ≠ k') : Disjoint (setZ c k) (setZ c k') :=
  Finset.disjoint_left.mpr fun i hi hi' => h (Fin.ext (by
    have h1 := (mem_srcZ c k i).mp hi; have h2 := (mem_srcZ c k' i).mp hi'; have := lt8 c; omega))

theorem dstZ_disjoint (k k' : Fin 16) (h : k ≠ k') : Disjoint (dstZ k).view.set (dstZ k').view.set :=
  Finset.disjoint_left.mpr fun i hi hi' => h (Fin.ext (by
    have h1 := (mem_dstZ k i).mp hi; have h2 := (mem_dstZ k' i).mp hi'; omega))

theorem outK_disjoint (c : Dev nD) (k k' : Fin 16) (h : k ≠ k') : Disjoint (outK c k).view.set (outK c k').view.set :=
  Finset.disjoint_left.mpr fun i hi hi' => h (Fin.ext (by
    have h1 := (mem_outK c k i).mp hi; have h2 := (mem_outK c k' i).mp hi'; omega))

/-- All chunks a device sends across `z`. -/
def allZ (c : Dev nD) : Finset S1x2048x1024.Idx := Finset.univ.biUnion (setZ c)
/-- The half of the result block a device computes. -/
def half (c : Dev nD) : Finset S1024x1024.Idx := Finset.univ.biUnion fun k : Fin 16 => (outK c k).view.set

theorem srcL_allZ (c : Dev nD) : Disjoint (srcL c).view.set (allZ c) := by
  refine Finset.disjoint_left.mpr fun i hi hi' => ?_
  obtain ⟨k, -, hk⟩ := Finset.mem_biUnion.mp hi'
  have h1 := (mem_srcL c i).mp hi; have h2 := (mem_srcZ c k i).mp hk; have := lt8 c; have := k.isLt
  omega

theorem dstZ_all : (Finset.univ.biUnion fun k : Fin 16 => (dstZ k).view.set) = (Finset.univ : Finset S512x1024.Idx) := by
  refine Finset.eq_univ_iff_forall.mpr fun i => ?_
  have h0 : (i 0).val < 512 := (i 0).isLt
  have hk : (i 0).val / 32 < 16 := by omega
  exact Finset.mem_biUnion.mpr ⟨⟨(i 0).val / 32, hk⟩, Finset.mem_univ _, (mem_dstZ ⟨(i 0).val / 32, hk⟩ i).mpr ⟨by simp only; omega, by simp only; omega⟩⟩

theorem half_half (c : Dev nD) : Disjoint (half c) (half (devX c)) := by
  refine Finset.disjoint_left.mpr fun i hi hi' => ?_
  obtain ⟨k, -, hk⟩ := Finset.mem_biUnion.mp hi
  obtain ⟨k', -, hk'⟩ := Finset.mem_biUnion.mp hi'
  have h1 := (mem_outK c k i).mp hk; have h2 := (mem_outK _ k' i).mp hk'; have := lt8 c; have := k.isLt; have := k'.isLt
  rw [devX_val] at h2
  omega

theorem half_union (c : Dev nD) : half c ∪ half (devX c) = Finset.univ := by
  refine Finset.eq_univ_iff_forall.mpr fun i => ?_
  have h0 : (i 0).val < 1024 := (i 0).isLt
  have hc := lt8 c
  have hx := devX_val c
  have hk : (i 0).val % 512 / 32 < 16 := by omega
  rw [Finset.mem_union]
  by_cases h : (i 0).val / 512 = c.val / 4
  · exact .inl (Finset.mem_biUnion.mpr ⟨⟨(i 0).val % 512 / 32, hk⟩, Finset.mem_univ _, (mem_outK c ⟨_, hk⟩ i).mpr ⟨by simp only; omega, by simp only; omega⟩⟩)
  · exact .inr (Finset.mem_biUnion.mpr ⟨⟨(i 0).val % 512 / 32, hk⟩, Finset.mem_univ _, (mem_outK (devX c) ⟨_, hk⟩ i).mpr
      ⟨by show 512 * ((devX c).val / 4) + 32 * ((i 0).val % 512 / 32) ≤ _; omega, by show _ < 512 * ((devX c).val / 4) + 32 * ((i 0).val % 512 / 32) + 32; omega⟩⟩)

/-! ## What the buffers hold -/

variable (m : (ℓ : Loc nD τ sig) → Buf (Elt F) ℓ)

/-- The partial sums a device starts with, -/
abbrev pAt (c : Dev nD) : Buf (Elt F) ((c : Thread nD τ).loc main_arg0) := m ((c : Thread nD τ).loc main_arg0)
/-- and the gains. -/
abbrev gAt (c : Dev nD) : Buf (Elt F) ((c : Thread nD τ).loc main_arg1) := m ((c : Thread nD τ).loc main_arg1)

/-- The rows a device computes on, out of its own partial sums, -/
def lAt (c : Dev nD) : Vec F S512x1024 .f32 := (srcL c).view.read (Elt F) (pAt m c)
/-- and the same rows out of those of the device across `z`. -/
def zAt (c : Dev nD) : Vec F S512x1024 .f32 := (srcL c).view.read (Elt F) (pAt m (devZ c))

/-- Chunk `k` of 512 rows. -/
def chunk (k : Fin 16) (v : Vec F S512x1024 .f32) : Vec F S32x1024 .f32 := fun i => v ((chunkR k).emb i)

/-- Chunk `k` of the half a device computes. -/
def valAt (c : Dev nD) (k : Fin 16) : Vec F S32x1024 .f32 := normK (gAt m c) (chunk k (lAt m c)) (chunk k (zAt m c))

/-- The device that computes half `h` of the block that device `c` ends up with. -/
def owner (c : Dev nD) (h : ℕ) : Dev nD := if h = c.val / 4 then c else devX c

/-- The block: row `r` is row `r % 32` of chunk `(r % 512) / 32` of the device that computes half `r / 512`. -/
def outAt (c : Dev nD) : Vec F S1024x1024 .f32 := fun i =>
  valAt m (owner c ((i 0).val / 512)) ⟨(i 0).val % 512 / 32, by omega⟩ (ix2 (⟨(i 0).val % 32, by omega⟩ : Fin 32) (i 1))

theorem outAt_devX (c : Dev nD) : outAt m (devX c) = outAt m c := by
  funext i
  have h : owner (devX c) ((i 0).val / 512) = owner c ((i 0).val / 512) := by
    have h0 : (i 0).val < 1024 := (i 0).isLt
    have hx := devX_val c
    have hc := lt8 c
    unfold owner
    rw [devX_devX]
    by_cases h : (i 0).val / 512 = c.val / 4
    · rw [if_pos h, if_neg (by omega)]
    · rw [if_neg h, if_pos (by omega)]
  unfold outAt
  rw [h]

/-- The chunks of a computed half. -/
theorem outAt_emb (c : Dev nD) (k : Fin 16) (j : S32x1024.Idx) : outAt m c ((outR c k).emb j) = valAt m c k j := by
  have hj : (j 0).val < 32 := (j 0).isLt
  have hk := k.isLt
  have hc := lt8 c
  have h0 : ((outR c k).emb j 0).val = 512 * (c.val / 4) + 32 * k.val + (j 0).val := by
    have := Rect.emb_apply (outR c k) j 0
    rw [this]; show k0_off4 c (row k) 0 + 1 * _ = _; rw [off4_eq, Nat.one_mul]; rfl
  have h1 : (outR c k).emb j 1 = j 1 := Fin.ext (by
    have := Rect.emb_apply (outR c k) j 1
    rw [this]; show k0_off4 c (row k) 1 + 1 * _ = _; rw [off4_eq, Nat.one_mul]; exact Nat.zero_add _)
  unfold outAt
  have e1 : owner c (((outR c k).emb j 0).val / 512) = c := by unfold owner; rw [if_pos (by rw [h0]; omega)]
  have e2 : (⟨((outR c k).emb j 0).val % 512 / 32, by omega⟩ : Fin 16) = k := Fin.ext (by simp only [h0]; omega)
  have e3 : (⟨((outR c k).emb j 0).val % 32, by omega⟩ : Fin 32) = j 0 := Fin.ext (by simp only [h0]; omega)
  rw [e1, e2, e3, h1]
  congr 1
  funext a; fin_cases a <;> rfl

/-- A chunk a device receives across `z`, as rows of the sender's partial sums: those the device itself computes on. -/
theorem srcZ_emb (c : Dev nD) (k : Fin 16) (j : S32x1024.Idx) :
    (srcZ (devZ c) k).view.emb j = (srcL c).view.emb ((chunkR k).emb j) := by
  have hc := lt8 c
  have hz := devZ_val c
  obtain ⟨a, b, rfl⟩ : ∃ a b, j = ix2 a b := ⟨j 0, j 1, by funext a; fin_cases a <;> rfl⟩
  have hr : (chunkR k).emb (ix2 a b) = ix2 (⟨32 * k.val + a.val, by have := a.isLt; have := k.isLt; omega⟩ : Fin 512) b := by
    funext i; fin_cases i
    · exact Fin.ext (by show 32 * k.val + 1 * a.val = 32 * k.val + a.val; omega)
    · exact Fin.ext (by show 0 + 1 * b.val = b.val; omega)
  rw [hr]
  show (Rect.unit (s := S1x2048x1024) (k0_off2 (devZ c) (row k)) S1x32x1024.size _).emb (Shape.reshapeEquiv _ (ix2 a b))
    = (Rect.unit (s := S1x2048x1024) (k0_off1 c) S1x512x1024.size _).emb (Shape.reshapeEquiv _ (ix2 _ b))
  rw [reshapeEquiv_ix2_1ab, reshapeEquiv_ix2_1ab]
  funext i
  refine Fin.ext ?_
  show k0_off2 (devZ c) (row k) i + 1 * _ = k0_off1 c i + 1 * _
  refine (congrArg (· + _) (congrFun (off2_eq (devZ c) k) i)).trans (Eq.trans ?_ (congrArg (· + _) (congrFun (off1_eq c) i)).symm)
  fin_cases i
  · rfl
  · show (512 * ((devZ c).val / 4) + 32 * k.val + 1024) - 1024 * ((devZ c).val % 2) + 1 * a.val
      = 1024 * (c.val % 2) + 512 * (c.val / 4) + 1 * (32 * k.val + a.val)
    omega
  · rfl

end Cert.Norm

end
-- ==== Proof.Protocol.lean ====
/- The protocol: what each semaphore's payment hands over, and who owes what.

   Every semaphore is used for one round.
   * The barrier of a device takes one unit from each of its two partners. The partner across `z` hands over its
     landing buffer, the partner across `x` the half of its result block that this device computes: the two places
     this device is going to write on another device.
   * Of the copies across `z`, the send semaphore of a chunk hands the sent rows back, the receive semaphore hands
     the filled chunk of the landing buffer to its owner; in the same way across `x` with a chunk of the result.
   * The two local copies hand over their destination, filled, and their source. -/
module

public import proofs.«01_k».proof.Proof.Contents

@[expose] public section

noncomputable section

namespace Cert.Norm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The kernel's own semaphores: the two of the local copies, and four arrays of sixteen. -/
abbrev Own : Type := Bool ⊕ (Fin 4 × Fin 16)
/-- These and the barrier. -/
abbrev Slot : Type := Unit ⊕ Own

abbrev arr : Fin 4 → DmaSems sig S16 := fun | 0 => cc0_scratch3 | 1 => cc0_scratch4 | 2 => cc0_scratch5 | 3 => cc0_scratch6

abbrev osem : Own → SemLoc sig
  | .inl false => .dma cc0_scratch7.sem
  | .inl true => .dma cc0_scratch8.sem
  | .inr (j, k) => .dma (semAt (arr j) k)
abbrev csem : Slot → SemLoc sig
  | .inl _ => .reg barS
  | .inr o => osem o

abbrev sBar : Slot := .inl ()
abbrev sRow : Slot := .inr (.inl false)
abbrev sGain : Slot := .inr (.inl true)
/-- The send and the receive semaphore of chunk `k` across `z`, -/
abbrev sZs (k : Fin 16) : Slot := .inr (.inr (0, k))
abbrev sZr (k : Fin 16) : Slot := .inr (.inr (1, k))
/-- and across `x`. -/
abbrev sXs (k : Fin 16) : Slot := .inr (.inr (2, k))
abbrev sXr (k : Fin 16) : Slot := .inr (.inr (3, k))

abbrev kcell (cs : Dev nD × Slot) : GSem nD τ sig := ((cs.1 : Thread nD τ), csem cs.2)

/-- Its number among the transfer semaphores. -/
def num : SemLoc sig → ℕ | .reg _ => 0 | .dma s => s.val
theorem num_arr (j : Fin 4) (k : Fin 16) : num (.dma (semAt (arr j) k)) = 1 + 16 * j.val + k.val := by revert j k; decide
theorem num_row : num (.dma cc0_scratch7.sem) = 65 := by decide
theorem num_gain : num (.dma cc0_scratch8.sem) = 66 := by decide

theorem num_osem : ∀ o : Own, num (osem o) = (match o with | .inl false => 65 | .inl true => 66 | .inr (j, k) => 1 + 16 * j.val + k.val)
  | .inl false => num_row
  | .inl true => num_gain
  | .inr (j, k) => num_arr j k

theorem osem_injective : Function.Injective osem := by
  intro a b h
  have hn : num (osem a) = num (osem b) := congrArg num h
  rw [num_osem, num_osem] at hn
  rcases a with (_ | _) | ⟨j, k⟩ <;> rcases b with (_ | _) | ⟨j', k'⟩ <;> simp only at hn
  all_goals first
    | rfl
    | (exfalso; omega)
    | (have h1 : j = j' := Fin.ext (by omega)
       have h2 : k = k' := Fin.ext (by omega)
       rw [h1, h2])

theorem osem_dma (o : Own) : ∃ s, osem o = .dma s := by
  rcases o with (_ | _) | ⟨j, k⟩ <;> exact ⟨_, rfl⟩
theorem osem_ne_bar (o : Own) : osem o ≠ .reg barS := by
  obtain ⟨s, hs⟩ := osem_dma o; rw [hs]; exact fun h => by cases h
theorem num_osem_pos (o : Own) : 0 < num (osem o) := by
  rw [num_osem]; rcases o with (_ | _) | ⟨j, k⟩ <;> simp only <;> omega

theorem csem_injective : Function.Injective csem := by
  rintro (_ | a) (_ | b) h
  · rfl
  · exact absurd h.symm (osem_ne_bar b)
  · exact absurd h (osem_ne_bar a)
  · exact congrArg Sum.inr (osem_injective h)

theorem kcell_injective : Function.Injective kcell := by
  rintro ⟨c, s⟩ ⟨c', s'⟩ h
  have h1 : c = c' := congrArg (fun g : GSem nD τ sig => g.1.1) h
  have h2 : s = s' := csem_injective (congrArg Prod.snd h)
  rw [h1, h2]

/-- Which of them a semaphore is. -/
def slotOf (sm : SemLoc sig) : Option Slot := Function.partialInv csem sm
theorem slotOf_csem (s : Slot) : slotOf (csem s) = some s := Function.partialInv_left csem_injective s
theorem csem_of_slotOf {sm : SemLoc sig} {s : Slot} (h : slotOf sm = some s) : csem s = sm :=
  (csem_injective.isPartialInv s sm).mp h

/-! ## What a copy credits -/

/-- A chunk's copy, the copy of the own rows, the copy of the gains. -/
@[irreducible] def N : ℕ := (dstZ 0).view.dmaCredit
@[irreducible] def NL : ℕ := lM.view.dmaCredit
@[irreducible] def NG : ℕ := gbM.view.dmaCredit

theorem credit_dstZ (k : Fin 16) : (dstZ k).view.dmaCredit = N := by unfold N; rfl
theorem credit_srcZ (c : Dev nD) (k : Fin 16) : (srcZ c k).view.dmaCredit = N := by unfold N; rfl
theorem credit_outK (c : Dev nD) (k : Fin 16) : (outK c k).view.dmaCredit = N := by unfold N; rfl

/-- What one payment to a semaphore is. -/
abbrev unitOf : Slot → ℕ
  | .inl _ => 1
  | .inr (.inl false) => NL
  | .inr (.inl true) => NG
  | .inr (.inr _) => N
theorem unitOf_pos (s : Slot) : 0 < unitOf s := by
  rcases s with _ | (_ | _) | _
  · exact Nat.one_pos
  · show 0 < NL; unfold NL; exact View.dmaCredit_pos _ (by decide)
  · show 0 < NG; unfold NG; exact View.dmaCredit_pos _ (by decide)
  · show 0 < N; unfold N; exact View.dmaCredit_pos _ (by decide)

/-! ## The pieces, held -/

variable (m : (ℓ : Loc nD τ sig) → Buf (Elt F) ℓ)

/-- Chunk `k` of device `c`'s landing buffer, -/
abbrev zPts (c : Dev nD) (k : Fin 16) (f : Buf (Elt F) ((c : Thread nD τ).loc cc0_scratch0)) : sProp 𝕄 :=
  (dstZ k).view.loc (c : Thread nD τ) ↦[(dstZ k).view.set]{fullShare} f
/-- chunk `k` of device `d`'s half of the result block, in device `c`'s memory, -/
abbrev oPts (c d : Dev nD) (k : Fin 16) (f : Buf (Elt F) ((c : Thread nD τ).loc cc0_stg0_0)) : sProp 𝕄 :=
  (outK d k).view.loc (c : Thread nD τ) ↦[(outK d k).view.set]{fullShare} f
/-- the rows device `c` sends across `z` in chunk `k`, -/
abbrev pPts (c : Dev nD) (k : Fin 16) : sProp 𝕄 :=
  (srcZ c k).view.loc (c : Thread nD τ) ↦[(srcZ c k).view.set]{fullShare} pAt m c
/-- its own rows in main memory and on chip, -/
abbrev rPts (c : Dev nD) : sProp 𝕄 := (srcL c).view.loc (c : Thread nD τ) ↦[(srcL c).view.set]{fullShare} pAt m c
abbrev lPts (c : Dev nD) (f : Buf (Elt F) ((c : Thread nD τ).loc cc0_scratch1)) : sProp 𝕄 :=
  lM.view.loc (c : Thread nD τ) ↦[lM.view.set]{fullShare} f
/-- and the gains in main memory and on chip. -/
abbrev gPts (c : Dev nD) : sProp 𝕄 := gM.view.loc (c : Thread nD τ) ↦[gM.view.set]{fullShare} gAt m c
abbrev gbPts (c : Dev nD) (f : Buf (Elt F) ((c : Thread nD τ).loc cc0_scratch2)) : sProp 𝕄 :=
  gbM.view.loc (c : Thread nD τ) ↦[gbM.view.set]{fullShare} f

/-! ## The schedule -/

/-- What device `c` is handed by a payment `b` to its semaphore `s`. -/
def pay (c : Dev nD) (b : Bool) : Slot → sProp 𝕄
  | .inl _ => if b then bigSep Finset.univ fun k : Fin 16 => iprop(∃ f, oPts (devX c) c k f)
      else bigSep Finset.univ fun k : Fin 16 => iprop(∃ f, zPts (devZ c) k f)
  | .inr (.inl false) => iprop(lPts c (lAt m c) ∗ rPts m c)
  | .inr (.inl true) => iprop(gbPts c (gAt m c) ∗ gPts m c)
  | .inr (.inr (0, k)) => pPts m c k
  | .inr (.inr (1, k)) => zPts c k (zAt m c)
  | .inr (.inr (2, k)) => oPts c c k (outAt m c)
  | .inr (.inr (3, k)) => oPts c (devX c) k (outAt m c)

instance pay_storable (c : Dev nD) (b : Bool) (s : Slot) : BI.Storable (upEmb : UEmb _ 𝕄) (pay (F := F) m c b s) := by
  unfold pay
  split
  · split <;> infer_instance
  all_goals infer_instance

/-- Who pays: both partners the barrier, one payment anything else. -/
def dutiesOf : Slot → Finset Bool
  | .inl _ => Finset.univ
  | .inr _ => {false}

def rd : Rounds.Schedule (GSem nD τ sig) Bool 𝕄 where
  duties g r := if r = 0 ∧ g.1.2 = .tc then (match slotOf g.2 with | some s => dutiesOf s | none => ∅) else ∅
  unitless _ := False
  amount g _ _ := match slotOf g.2 with | some s => unitOf s | none => 1
  payload g _ b := match slotOf g.2 with | some s => pay m g.1.1 b s | none => iprop(emp)
  amount_pos g _ _ _ := by
    cases h : slotOf g.2 with
    | none => exact Nat.one_pos
    | some s => exact unitOf_pos s

instance rd_payload_storable (g : GSem nD τ sig) (r : ℕ) (b : Bool) : BI.Storable (upEmb : UEmb _ 𝕄) ((rd (F := F) m).payload g r b) := by
  show BI.Storable upEmb (match slotOf g.2 with | some s => pay m g.1.1 b s | none => iprop(emp))
  split <;> infer_instance

section Tables
variable (c : Dev nD)

theorem duties_eq (s : Slot) : (rd (F := F) m).duties (kcell (c, s)) 0 = dutiesOf s := by
  show (if 0 = 0 ∧ (kcell (c, s)).1.2 = Proc.tc then (match slotOf (csem s) with | some s => dutiesOf s | none => ∅) else ∅) = _
  rw [if_pos ⟨rfl, rfl⟩, slotOf_csem]
theorem duties_later (g : GSem nD τ sig) : ∀ r, 1 ≤ r → (rd (F := F) m).duties g r = ∅ :=
  fun r hr => by dsimp only [rd]; rw [if_neg fun h => by omega]
theorem mem_own (o : Own) : false ∈ (rd (F := F) m).duties (kcell (c, .inr o)) 0 := by
  rw [duties_eq]; exact Finset.mem_singleton_self _
theorem mem_bar (b : Bool) : b ∈ (rd (F := F) m).duties (kcell (c, sBar)) 0 := by
  rw [duties_eq]; exact Finset.mem_univ _
theorem amount_eq (s : Slot) (b : Bool) : (rd (F := F) m).amount (kcell (c, s)) 0 b = unitOf s := by
  show (match slotOf (csem s) with | some s => unitOf s | none => 1) = _
  rw [slotOf_csem]
theorem payload_eq (s : Slot) (b : Bool) : (rd (F := F) m).payload (kcell (c, s)) 0 b = pay m c b s := by
  show (match slotOf (csem s) with | some s => pay m c b s | none => iprop(emp)) = _
  rw [slotOf_csem]
theorem expect_own (o : Own) : (rd (F := F) m).expect (kcell (c, .inr o)) 0 = unitOf (.inr o) := by
  unfold Schedule.expect Schedule.amountOf
  rw [duties_eq]
  show (∑ d ∈ {false}, _) = _
  rw [Finset.sum_singleton, amount_eq]
theorem expect_bar : (rd (F := F) m).expect (kcell (c, sBar)) 0 = 2 := by
  unfold Schedule.expect Schedule.amountOf
  rw [duties_eq, Finset.sum_congr rfl fun d _ => amount_eq m c sBar d]
  rfl
theorem rest_own (o : Own) : bigSep ((rd (F := F) m).duties (kcell (c, .inr o)) 0 \ ∅) (fun d => (rd (F := F) m).payload (kcell (c, .inr o)) 0 d)
    = pay m c false (.inr o) := by
  rw [Finset.sdiff_empty, duties_eq]
  show bigSep {false} _ = _
  rw [bigSep_singleton, payload_eq]
theorem rest_bar : bigSep ((rd (F := F) m).duties (kcell (c, sBar)) 0 \ ∅) (fun d => (rd (F := F) m).payload (kcell (c, sBar)) 0 d)
    = iprop(pay m c false sBar ∗ pay m c true sBar) := by
  rw [Finset.sdiff_empty, duties_eq]
  show bigSep Finset.univ _ = _
  rw [bigSep_univ_eq_bigSepL [false, true] (by decide) (by decide), bigSepL_cons_cons, bigSepL_singleton, payload_eq, payload_eq]
  rfl

end Tables

/-! ## What a device owes, and the levels -/

/-- Still to be sent across `z`, the chunks `ks`, -/
def oweZ (c : Dev nD) : List (Fin 16) → CellTallies nD τ sig Unit
  | [] => 0
  | k :: ks => oweZ c ks + tallyAt (kcell (devZ c, sZr k)) () N
/-- and across `x`. -/
def oweX (c : Dev nD) : List (Fin 16) → CellTallies nD τ sig Unit
  | [] => 0
  | k :: ks => oweX c ks + tallyAt (kcell (devX c, sXr k)) () N
/-- What a device owes at the start: every chunk both ways, and one unit to each partner's barrier. -/
def owe₂ (c : Dev nD) : CellTallies nD τ sig Unit := oweX c chunks + oweZ c chunks
def owe₁ (c : Dev nD) : CellTallies nD τ sig Unit := owe₂ c + tallyAt (kcell (devX c, sBar)) () 1
def owe₀ (c : Dev nD) : CellTallies nD τ sig Unit := owe₁ c + tallyAt (kcell (devZ c, sBar)) () 1

def L (g : GSem nD τ sig) : Finset Unit := if g.1.2 = .tc then {()} else ∅
theorem L_of_ne (g : GSem nD τ sig) (h : g.1.2 ≠ .tc) : L g = ∅ := if_neg h

/-- The barrier below the receive semaphores across `z`, these below those across `x`; everything else lowest. -/
def lvS : Slot → ℕ
  | .inl _ => 1
  | .inr (.inr (1, _)) => 2
  | .inr (.inr (3, _)) => 3
  | _ => 0
def lv (g : GSem nD τ sig) (_ : Unit) : ℕ := match slotOf g.2 with | some s => lvS s | none => 0
theorem lv_kcell (c : Dev nD) (s : Slot) (u : Unit) : lv (kcell (c, s)) u = lvS s := by
  show (match slotOf (csem s) with | some s => lvS s | none => 0) = _
  rw [slotOf_csem]

/-- Everything owed under `O` lies above level `n`. -/
def Above (n : ℕ) (O : CellTallies nD τ sig Unit) : Prop := ∀ g u, 0 < O g u → u ∈ L g ∧ n < lv g u

theorem above_zero (n : ℕ) : Above n 0 := fun g u h => absurd h (by simp)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n N' : ℕ} (c : Dev nD) (s : Slot) (h : n < lvS s) : Above n (tallyAt (kcell (c, s)) () N') := fun g u hg => by
  rw [tallyAt_apply] at hg
  by_cases hc : g = kcell (c, s) ∧ u = ()
  · obtain ⟨rfl, rfl⟩ := hc
    exact ⟨by unfold L; rw [if_pos rfl]; exact Finset.mem_singleton_self _, by rw [lv_kcell]; exact h⟩
  · rw [if_neg hc] at hg; exact absurd hg (Nat.lt_irrefl 0)
theorem above_oweZ {n : ℕ} (h : n < 2) (c : Dev nD) : ∀ ks, Above n (oweZ c ks)
  | [] => above_zero n
  | k :: ks => above_add (above_oweZ h c ks) (above_tally _ _ h)
theorem above_oweX {n : ℕ} (h : n < 3) (c : Dev nD) : ∀ ks, Above n (oweX c ks)
  | [] => above_zero n
  | k :: ks => above_add (above_oweX h c ks) (above_tally _ _ h)
theorem above_owe₂ {n : ℕ} (h : n < 2) (c : Dev nD) : Above n (owe₂ c) :=
  above_add (above_oweX (by omega) c _) (above_oweZ h c _)
theorem above_owe₀ (c : Dev nD) : Above 0 (owe₀ c) :=
  above_add (above_add (above_owe₂ (by decide) c) (above_tally _ _ Nat.one_pos)) (above_tally _ _ Nat.one_pos)

/-- A device may wait at a semaphore of level at most `n` while all it owes lies above `n`. -/
theorem mayWait (c : Dev nD) (sm : SemLoc sig) (n : ℕ) (O : CellTallies nD τ sig Unit) (hn : lv ((c : Thread nD τ), sm) () ≤ n) (hO : Above n O) :
    (levAts L lv : sProp 𝕄) ⊢ MayWait (c : Thread nD τ) sm () O :=
  MayOwe.of_cut (L := L) (lev := lv) n
    (fun p hp => by rw [Finset.mem_singleton.mp hp]; unfold L; rw [if_pos rfl]; exact Finset.mem_singleton_self _)
    (fun g u hg => (hO g u hg).1)
    (fun p hp => by rw [Finset.mem_singleton.mp hp]; exact hn)
    (fun g u hg => (hO g u hg).2)

end Cert.Norm

end
-- ==== Proof.Steps.lean ====
/- The steps of the body, each once, at a chunk `k` of a device `c`; then the three loops by induction on their
   lists of chunks. -/
module

public import proofs.«01_k».proof.Proof.Protocol

@[expose] public section

noncomputable section

namespace Cert.Norm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What the copies and the store leave -/

/-- The chunk that arrives from across `z`. -/
theorem landed_z (c s : Dev nD) (hs : s = devZ c) (k : Fin 16) (f : Buf (Elt F) ((c : Thread nD τ).loc cc0_scratch0)) :
    zPts c k ((dstZ k).view.write (Elt F) f ((srcZ s k).view.read (Elt F) (pAt m s)) Finset.univ) = zPts c k (zAt m c) := by
  subst hs
  refine pointsTo_congr fun i hi => ?_
  obtain ⟨j, -, rfl⟩ := Finset.mem_map.mp hi
  rw [View.write_emb_of_mem _ _ (Finset.mem_univ j)]
  show pAt m (devZ c) ((srcZ (devZ c) k).view.emb j) = pAt m (devZ c) ((srcL c).view.emb ((chunkR k).emb j))
  rw [srcZ_emb]

/-- The chunk that arrives from across `x`. -/
theorem landed_x (c s : Dev nD) (hs : s = devX c) (k : Fin 16) (f : Buf (Elt F) ((c : Thread nD τ).loc cc0_stg0_0)) :
    oPts c s k ((outK s k).view.write (Elt F) f ((outK s k).view.read (Elt F) (outAt m s)) Finset.univ) = oPts c (devX c) k (outAt m c) := by
  subst hs
  refine pointsTo_congr fun i hi => ?_
  obtain ⟨j, -, rfl⟩ := Finset.mem_map.mp hi
  rw [View.write_emb_of_mem _ _ (Finset.mem_univ j), ← outAt_devX m c]
  rfl

/-- The chunk a device computes and stores. -/
theorem stored (c : Dev nD) (k : Fin 16) (f : Buf (Elt F) ((c : Thread nD τ).loc cc0_stg0_0)) :
    oPts c c k ((oM.access (outR' c k) : View sig .tc _ _ _).write (Elt F) f (valAt m c k) Finset.univ) = oPts c c k (outAt m c) := by
  have key : ∀ (o : Fin 2 → ℕ) (ho : ∀ a, o a + S32x1024.size a ≤ S1024x1024.size a), o = k0_off4 c (row k) →
      oPts c c k ((oM.access (Rect.unit (s := S1024x1024) o S32x1024.size ho) : View sig .tc _ _ _).write (Elt F) f (valAt m c k) Finset.univ)
        = oPts c c k (outAt m c) := by
    rintro o ho rfl
    refine pointsTo_congr fun i hi => ?_
    obtain ⟨j, -, rfl⟩ := Finset.mem_map.mp hi
    exact (View.write_emb_of_mem (v := (outK c k).view) _ _ (Finset.mem_univ j)).trans (outAt_emb m c k j).symm
  exact key _ _ ((off3_eq c k).trans (off4_eq c k).symm)

/-- The rows the load and the store name are those of the chunk. -/
theorem out_sub (c : Dev nD) (k : Fin 16) : (oM.access (outR' c k) : View sig .tc _ _ _).set ⊆ (outK c k).view.set := by
  have key : ∀ (o : Fin 2 → ℕ) (ho : ∀ a, o a + S32x1024.size a ≤ S1024x1024.size a), o = k0_off4 c (row k) →
      (oM.access (Rect.unit (s := S1024x1024) o S32x1024.size ho) : View sig .tc _ _ _).set ⊆ (outK c k).view.set := by
    rintro o ho rfl
    exact Finset.Subset.refl _
  exact key _ _ ((off3_eq c k).trans (off4_eq c k).symm)

/-! ## What each payment hands over -/

theorem pay_row (c : Dev nD) (b : Bool) : pay m c b sRow = iprop(lPts c (lAt m c) ∗ rPts m c) := rfl
theorem pay_gain (c : Dev nD) (b : Bool) : pay m c b sGain = iprop(gbPts c (gAt m c) ∗ gPts m c) := rfl
theorem pay_zs (c : Dev nD) (b : Bool) (k : Fin 16) : pay m c b (sZs k) = pPts m c k := rfl
theorem pay_zr (c : Dev nD) (b : Bool) (k : Fin 16) : pay m c b (sZr k) = zPts c k (zAt m c) := rfl
theorem pay_xs (c : Dev nD) (b : Bool) (k : Fin 16) : pay m c b (sXs k) = oPts c c k (outAt m c) := rfl
theorem pay_xr (c : Dev nD) (b : Bool) (k : Fin 16) : pay m c b (sXr k) = oPts c (devX c) k (outAt m c) := rfl

/-! ## The standing facts -/

/-- Every semaphore's invariant, at the names `K`, and that each is at its one round. -/
def records (K : Dev nD × Slot → ℕ) : sProp 𝕄 :=
  iprop((bigSep Finset.univ fun cs : Dev nD × Slot => cellInv ER (rd m) (K cs) (kcell cs))
    ∗ bigSep Finset.univ fun cs : Dev nD × Slot => reached ER (kcell cs) 0)

instance records_persistent (K : Dev nD × Slot → ℕ) : BI.Persistent (records (F := F) m K) := by unfold records; infer_instance

variable (K : Dev nD × Slot → ℕ)

theorem inv_of (cs : Dev nD × Slot) : records m K ⊢ (cellInv ER (rd m) (K cs) (kcell cs) : sProp 𝕄) :=
  (Idealize.SL.BI.sep_and.trans Idealize.SL.BI.and_elimL).trans (bigSep_elim (Φ := fun cs : Dev nD × Slot => cellInv ER (rd m) (K cs) (kcell cs)) (Finset.mem_univ cs))
theorem reached_of (cs : Dev nD × Slot) : records m K ⊢ (reached ER (kcell cs) 0 : sProp 𝕄) :=
  (Idealize.SL.BI.sep_and.trans Idealize.SL.BI.and_elimR).trans (bigSep_elim (Φ := fun cs : Dev nD × Slot => (reached ER (kcell cs) 0 : sProp 𝕄)) (Finset.mem_univ cs))

/-- A device owes `O`, whatever it has waited for. -/
abbrev ow (c : Dev nD) (O : CellTallies nD τ sig Unit) : sProp 𝕄 := iprop(∃ W, owes (c : Thread nD τ) O W)

/-- The right to one payment to a semaphore. -/
abbrev tok (c : Dev nD) (s : Slot) (b : Bool) : sProp 𝕄 := dutyTok ER (kcell (c, s)) 0 b
/-- Its owner's place before and after its round. -/
abbrev atStart (c : Dev nD) (s : Slot) : sProp 𝕄 := atPos ER (kcell (c, s)) 0 ∅ 0
abbrev atEnd (c : Dev nD) (s : Slot) : sProp 𝕄 := atPos ER (kcell (c, s)) (0 + 1) ∅ 0
/-- A full payment's worth of its credit. -/
abbrev crd (c : Dev nD) (s : Slot) : sProp 𝕄 := cred (tallyAt (kcell (c, s)) () (unitOf s))

section Steps

variable (c : Dev nD)

/-- A wait for a transfer on one of the device's own semaphores. -/
theorem wp_wait_own {α : Type} {Q : α → sProp 𝕄} (o : Own) {w : TpuEff nD τ sig (Elt F) Λ₀ .tc PUnit} (n : ℕ) (O : CellTallies nD τ sig Unit)
    (hw : ∀ Kt : PUnit → sProp 𝕄, wpE' (defs₀ (F := F)) 𝒱₀ (c : Thread nD τ) none ∅ Set.univ w Kt = waitSpec (c : Thread nD τ) Set.univ (osem o) (unitOf (.inr o)) Kt)
    (hn : lvS (.inr o) ≤ n) (hO : Above n O) {k : PUnit → Prog (TpuEff nD τ sig (Elt F) Λ₀ .tc) α} :
    iprop(records m K ∗ levAts L lv ∗ crd c (.inr o) ∗ ow c O ∗ atStart c (.inr o))
      ⊢ iprop(((ow c O ∗ atEnd c (.inr o) ∗ pay m c false (.inr o)) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold ow
  iintro ⟨#HR, #Hlev, Hc, ⟨%W, HO⟩, Hat⟩ Hk
  iapply (Rounds.wp_wait_rest_token 𝒱₀ ER (rd m) (c : Thread nD τ) none (κ := K (c, .inr o)) hw (Set.mem_univ _) () (O := O) (W := W) (R := 0) (m := 0) (T := ∅)
      (by rw [Nat.zero_add]; exact (expect_own m c o).symm)) $$ [Hc HO Hat]
  · isplitr; · iapply (inv_of m K (c, .inr o)); iexact HR
    isplitl [Hc]; · iexact Hc
    isplitl [HO]; · iexact HO
    isplitr; · iapply (mayWait c (osem o) n O (by rw [show ((c : Thread nD τ), osem o) = kcell (c, .inr o) from rfl, lv_kcell]; exact hn) hO); iexact Hlev
    iexact Hat
  iintro ⟨HO, Hat, -, Hpay⟩
  iapply Hk
  isplitl [HO]; · iexists _; iexact HO
  isplitl [Hat]; · iexact Hat
  iapply (Entails.of_eq (rest_own m c o)); iexact Hpay

/-- The waits of the body, each for one payment of its semaphore. -/
theorem wait_zr (k : Fin 16) {h h'} (Kt : PUnit → sProp 𝕄) :
    wpE' (defs₀ (F := F)) 𝒱₀ (c : Thread nD τ) none ∅ Set.univ (.waitDma2 (semAt cc0_scratch4 k) (srcZ c k) (dstZ k) h h') Kt
      = waitSpec (c : Thread nD τ) Set.univ (osem (.inr (1, k))) (unitOf (sZr k)) Kt :=
  (wpE_waitDma2_eq 𝒱₀ (c : Thread nD τ) none Set.univ Kt).trans (by rw [credit_dstZ])
theorem wait_zs (k : Fin 16) {h h'} (Kt : PUnit → sProp 𝕄) :
    wpE' (defs₀ (F := F)) 𝒱₀ (c : Thread nD τ) none ∅ Set.univ (.waitDma2 (semAt cc0_scratch3 k) (dstZ k) (srcZ c k) h h') Kt
      = waitSpec (c : Thread nD τ) Set.univ (osem (.inr (0, k))) (unitOf (sZs k)) Kt :=
  (wpE_waitDma2_eq 𝒱₀ (c : Thread nD τ) none Set.univ Kt).trans (by rw [credit_srcZ])
theorem wait_xs (k : Fin 16) {h h'} (Kt : PUnit → sProp 𝕄) :
    wpE' (defs₀ (F := F)) 𝒱₀ (c : Thread nD τ) none ∅ Set.univ (.waitDma2 (semAt cc0_scratch5 k) (outK c k) (outK c k) h h') Kt
      = waitSpec (c : Thread nD τ) Set.univ (osem (.inr (2, k))) (unitOf (sXs k)) Kt :=
  (wpE_waitDma2_eq 𝒱₀ (c : Thread nD τ) none Set.univ Kt).trans (by rw [credit_outK])
theorem wait_xr (k : Fin 16) {h h'} (Kt : PUnit → sProp 𝕄) :
    wpE' (defs₀ (F := F)) 𝒱₀ (c : Thread nD τ) none ∅ Set.univ (.waitDma2 (semAt cc0_scratch6 k) (outK c k) (outK c k) h h') Kt
      = waitSpec (c : Thread nD τ) Set.univ (osem (.inr (3, k))) (unitOf (sXr k)) Kt :=
  (wpE_waitDma2_eq 𝒱₀ (c : Thread nD τ) none Set.univ Kt).trans (by rw [credit_outK])

/-- One chunk sent across `z`. -/
theorem wp_send_z {α : Type} {Q : α → sProp 𝕄} (k : Fin 16) (O : CellTallies nD τ sig Unit) {hsc hsc' hst} {kk : PUnit → Prog (TpuEff nD τ sig (Elt F) Λ₀ .tc) α} :
    iprop(records m K ∗ (∃ f, zPts (devZ c) k f) ∗ pPts m c k ∗ ow c (O + tallyAt (kcell (devZ c, sZr k)) () N) ∗ tok c (sZs k) false ∗ tok (devZ c) (sZr k) false)
      ⊢ iprop(((crd c (sZs k) ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (srcZ c k) (.remote (Dev.tc (devZ c)) (dstZ k) (.dma (semAt cc0_scratch3 k))) (.dma (semAt cc0_scratch4 k)) hsc hsc' hst) kk) Q) := by
  unfold ow
  iintro ⟨#HR, ⟨%f, Hd⟩, Hs, ⟨%W, HO⟩, Ht, Ht'⟩ Hk
  iapply (Rounds.wp_send_pointsTo 𝒱₀ ER (rd m) (c : Thread nD τ) none (κ₁ := K (c, sZs k)) (κ₂ := K (devZ c, sZr k)) (r₁ := 0) (r₂ := 0) (d₁ := false) (d₂ := false)
      (c' := (devZ c : Thread nD τ)) (src := srcZ c k) (dst := dstZ k) (fs := pAt m c) (fd := f)
      (mem_own m c (.inr (0, k))) (mem_own m (devZ c) (.inr (1, k))) () () N (credit_dstZ k) (amount_eq m c (sZs k) false) (amount_eq m (devZ c) (sZr k) false) O rfl (W := W)
      (Entails.of_eq (payload_eq m c (sZs k) false).symm)
      (Entails.of_eq ((landed_z m (devZ c) c (devZ_devZ c).symm k f).trans (payload_eq m (devZ c) (sZr k) false).symm))) $$ [Hd Hs HO Ht Ht']
  · isplitr; · iapply (inv_of m K (c, sZs k)); iexact HR
    isplitr; · iapply (inv_of m K (devZ c, sZr k)); iexact HR
    isplitl [Hs]; · iexact Hs
    isplitl [Hd]; · iexact Hd
    isplitl [HO]; · iexact HO
    isplitl [Ht]; · iexact Ht
    isplitr; · iapply (reached_of m K (c, sZs k)); iexact HR
    isplitl [Ht']; · iexact Ht'
    iapply (reached_of m K (devZ c, sZr k)); iexact HR
  iintro ⟨Hc, HO⟩
  iapply Hk
  isplitl [Hc]; · iexact Hc
  iexists _; iexact HO

/-- One chunk sent across `x`. -/
theorem wp_send_x {α : Type} {Q : α → sProp 𝕄} (k : Fin 16) (O : CellTallies nD τ sig Unit) {hsc hsc' hst} {kk : PUnit → Prog (TpuEff nD τ sig (Elt F) Λ₀ .tc) α} :
    iprop(records m K ∗ (∃ f, oPts (devX c) c k f) ∗ oPts c c k (outAt m c) ∗ ow c (O + tallyAt (kcell (devX c, sXr k)) () N) ∗ tok c (sXs k) false ∗ tok (devX c) (sXr k) false)
      ⊢ iprop(((crd c (sXs k) ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (outK c k) (.remote (Dev.tc (devX c)) (outK c k) (.dma (semAt cc0_scratch5 k))) (.dma (semAt cc0_scratch6 k)) hsc hsc' hst) kk) Q) := by
  unfold ow
  iintro ⟨#HR, ⟨%f, Hd⟩, Hs, ⟨%W, HO⟩, Ht, Ht'⟩ Hk
  iapply (Rounds.wp_send_pointsTo 𝒱₀ ER (rd m) (c : Thread nD τ) none (κ₁ := K (c, sXs k)) (κ₂ := K (devX c, sXr k)) (r₁ := 0) (r₂ := 0) (d₁ := false) (d₂ := false)
      (c' := (devX c : Thread nD τ)) (src := outK c k) (dst := outK c k) (fs := outAt m c) (fd := f)
      (mem_own m c (.inr (2, k))) (mem_own m (devX c) (.inr (3, k))) () () N (credit_outK c k) (amount_eq m c (sXs k) false) (amount_eq m (devX c) (sXr k) false) O rfl (W := W)
      (Entails.of_eq (payload_eq m c (sXs k) false).symm)
      (Entails.of_eq ((landed_x m (devX c) c (devX_devX c).symm k f).trans (payload_eq m (devX c) (sXr k) false).symm))) $$ [Hd Hs HO Ht Ht']
  · isplitr; · iapply (inv_of m K (c, sXs k)); iexact HR
    isplitr; · iapply (inv_of m K (devX c, sXr k)); iexact HR
    isplitl [Hs]; · iexact Hs
    isplitl [Hd]; · iexact Hd
    isplitl [HO]; · iexact HO
    isplitl [Ht]; · iexact Ht
    isplitr; · iapply (reached_of m K (c, sXs k)); iexact HR
    isplitl [Ht']; · iexact Ht'
    iapply (reached_of m K (devX c, sXr k)); iexact HR
  iintro ⟨Hc, HO⟩
  iapply Hk
  isplitl [Hc]; · iexact Hc
  iexists _; iexact HO

/-- One chunk summed, normalised and stored. -/
theorem wp_chunk {α : Type} {Q : α → sProp 𝕄} (k : Fin 16) {h1 h2 h3 h4 h5} {kk : PUnit → Prog (TpuEff nD τ sig (Elt F) Λ₀ .tc) α} :
    iprop(lPts c (lAt m c) ∗ zPts c k (zAt m c) ∗ (∃ f, oPts c c k f))
      ⊢ iprop(((lPts c (lAt m c) ∗ zPts c k (zAt m c) ∗ oPts c c k (outAt m c)) -∗ wp frame (wpE (defs₀ (F := F)) 𝒱₀ (c : Thread nD τ) none) Set.univ (kk ⟨⟩) Q)
          -∗ wp frame (wpE (defs₀ (F := F)) 𝒱₀ (c : Thread nD τ) none) Set.univ
            (.op (.load lM (chunkR k).toLoadRect h1) fun a => .op (.load zM (chunkR k).toLoadRect h2) fun b =>
              .op (.load oM (outR' c k).toLoadRect h3) fun _ => .op (.store oM (outR' c k) (normK (gAt m c) a b) Finset.univ h4 h5) kk) Q) := by
  iintro ⟨Hl, Hz, ⟨%f, Ho⟩⟩ Hk
  iapply (wp_load_rect 𝒱₀ (c : Thread nD τ) none Set.univ (m := lM) (r := chunkR k) (S := lM.view.set) (f := lAt m c)
    (by rw [View.set_whole]; exact Finset.subset_univ _)) $$ Hl
  iintro Hl
  iapply (wp_load_rect 𝒱₀ (c : Thread nD τ) none Set.univ (m := zM) (r := chunkR k) (S := (dstZ k).view.set) (f := zAt m c) (Finset.Subset.refl _)) $$ Hz
  iintro Hz
  iapply (wp_load_rect 𝒱₀ (c : Thread nD τ) none Set.univ (m := oM) (r := outR' c k) (S := (outK c k).view.set) (f := f) (out_sub c k)) $$ Ho
  iintro Ho
  iapply (wp_store 𝒱₀ (c : Thread nD τ) none Set.univ (m := oM) (r := outR' c k) (Mk := Finset.univ) (S := (outK c k).view.set) (f := f) (out_sub c k)) $$ Ho
  iintro Ho
  iapply Hk
  isplitl [Hl]; · iexact Hl
  isplitl [Hz]; · iexact Hz
  rw [← stored m c k f]
  iexact Ho

end Steps

/-! ## The loops -/

section Loops

variable (c : Dev nD)

/-- What the sends across `z` take and leave, per chunk. -/
def zIn (k : Fin 16) : sProp 𝕄 := iprop((∃ f, zPts (devZ c) k f) ∗ pPts m c k ∗ tok c (sZs k) false ∗ tok (devZ c) (sZr k) false)

theorem wp_sendsZ {Q : PUnit → sProp 𝕄} (O : CellTallies nD τ sig Unit) (P : PR F) : ∀ ks : List (Fin 16),
    iprop(records m K ∗ bigSepL ks (zIn m c) ∗ ow c (O + oweZ c ks))
      ⊢ iprop(((bigSepL ks (fun k => crd c (sZs k)) ∗ ow c O) -∗ wp frame (wpE (defs₀ (F := F)) 𝒱₀ (c : Thread nD τ) none) Set.univ P Q)
          -∗ wp frame (wpE (defs₀ (F := F)) 𝒱₀ (c : Thread nD τ) none) Set.univ (sendsZ c ks P) Q)
  | [] => by
    unfold sendsZ oweZ
    simp only [List.foldr_nil, bigSepL_nil, add_zero]
    iintro ⟨-, -, HO⟩ Hk
    iapply Hk
    isplitr; · iempintro
    iexact HO
  | k :: ks => by
    have ih := wp_sendsZ (Q := Q) O P ks
    unfold sendsZ at ih ⊢
    simp only [List.foldr_cons, bigSepL_cons', oweZ]
    rw [← add_assoc]
    iintro ⟨#HR, ⟨Hin, Hins⟩, HO⟩ Hk
    unfold zIn
    icases Hin with ⟨Hd, Hp, Ht, Ht'⟩
    iapply (wp_send_z m K c k (O + oweZ c ks)) $$ [Hd Hp HO Ht Ht']
    · isplitr; · iexact HR
      isplitl [Hd]; · iexact Hd
      isplitl [Hp]; · iexact Hp
      isplitl [HO]; · iexact HO
      isplitl [Ht]; · iexact Ht
      iexact Ht'
    iintro ⟨Hc, HO⟩
    iapply ih $$ [Hins HO]
    · isplitr; · iexact HR
      isplitl [Hins]; · iexact Hins
      iexact HO
    iintro ⟨Hcs, HO⟩
    iapply Hk
    isplitl [Hc Hcs]
    · isplitl [Hc]; · iexact Hc
      iexact Hcs
    iexact HO

/-- What a round takes and leaves. -/
def xIn (k : Fin 16) : sProp 𝕄 :=
  iprop(crd c (sZr k) ∗ atStart c (sZr k) ∗ (∃ f, oPts c c k f) ∗ (∃ f, oPts (devX c) c k f) ∗ tok c (sXs k) false ∗ tok (devX c) (sXr k) false)
def xOut (k : Fin 16) : sProp 𝕄 := iprop(atEnd c (sZr k) ∗ zPts c k (zAt m c) ∗ crd c (sXs k))

theorem wp_rounds {Q : PUnit → sProp 𝕄} (P : PR F) : ∀ ks : List (Fin 16),
    iprop(records m K ∗ levAts L lv ∗ lPts c (lAt m c) ∗ bigSepL ks (xIn c) ∗ ow c (oweX c ks))
      ⊢ iprop(((lPts c (lAt m c) ∗ bigSepL ks (xOut m c) ∗ ow c 0) -∗ wp frame (wpE (defs₀ (F := F)) 𝒱₀ (c : Thread nD τ) none) Set.univ P Q)
          -∗ wp frame (wpE (defs₀ (F := F)) 𝒱₀ (c : Thread nD τ) none) Set.univ (rounds c (gAt m c) ks P) Q)
  | [] => by
    unfold rounds oweX
    simp only [List.foldr_nil, bigSepL_nil]
    iintro ⟨-, -, Hl, -, HO⟩ Hk
    iapply Hk
    isplitl [Hl]; · iexact Hl
    isplitr; · iempintro
    iexact HO
  | k :: ks => by
    have ih := wp_rounds (Q := Q) P ks
    unfold rounds at ih ⊢
    simp only [List.foldr_cons, bigSepL_cons', oweX]
    iintro ⟨#HR, #Hlev, Hl, ⟨Hin, Hins⟩, HO⟩ Hk
    unfold xIn
    icases Hin with ⟨Hc, Hat, Ho, Hd, Ht, Ht'⟩
    iapply (wp_wait_own m K c (.inr (1, k)) 2 (oweX c ks + tallyAt (kcell (devX c, sXr k)) () N) (wait_zr c k)
      (le_refl 2) (above_add (above_oweX (by decide) c ks) (above_tally _ _ (show 2 < 3 by decide)))) $$ [Hc HO Hat]
    · isplitr; · iexact HR
      isplitr; · iexact Hlev
      isplitl [Hc]; · iexact Hc
      isplitl [HO]; · iexact HO
      iexact Hat
    iintro ⟨HO, Hat, Hz⟩
    ihave Hz := (Entails.of_eq (pay_zr m c false k)) $$ Hz
    iapply (wp_chunk m c k) $$ [Hl Hz Ho]
    · isplitl [Hl]; · iexact Hl
      isplitl [Hz]; · iexact Hz
      iexact Ho
    iintro ⟨Hl, Hz, Ho⟩
    iapply (wp_send_x m K c k (oweX c ks)) $$ [Hd Ho HO Ht Ht']
    · isplitr; · iexact HR
      isplitl [Hd]; · iexact Hd
      isplitl [Ho]; · iexact Ho
      isplitl [HO]; · iexact HO
      isplitl [Ht]; · iexact Ht
      iexact Ht'
    iintro ⟨Hc, HO⟩
    iapply ih $$ [Hl Hins HO]
    · isplitr; · iexact HR
      isplitr; · iexact Hlev
      isplitl [Hl]; · iexact Hl
      isplitl [Hins]; · iexact Hins
      iexact HO
    iintro ⟨Hl, Houts, HO⟩
    iapply Hk
    isplitl [Hl]; · iexact Hl
    isplitl [Hat Hz Hc Houts]
    · isplitl [Hat Hz Hc]
      · unfold xOut
        isplitl [Hat]; · iexact Hat
        isplitl [Hz]; · iexact Hz
        iexact Hc
      iexact Houts
    iexact HO

/-- What a drain takes and leaves. -/
def dIn (k : Fin 16) : sProp 𝕄 :=
  iprop((crd c (sZs k) ∗ crd c (sXs k) ∗ crd c (sXr k)) ∗ atStart c (sZs k) ∗ atStart c (sXs k) ∗ atStart c (sXr k))
def dOut (k : Fin 16) : sProp 𝕄 :=
  iprop((atEnd c (sZs k) ∗ atEnd c (sXs k) ∗ atEnd c (sXr k)) ∗ pPts m c k ∗ oPts c c k (outAt m c) ∗ oPts c (devX c) k (outAt m c))

theorem wp_drains {Q : PUnit → sProp 𝕄} (P : PR F) : ∀ ks : List (Fin 16),
    iprop(records m K ∗ levAts L lv ∗ bigSepL ks (dIn c) ∗ ow c 0)
      ⊢ iprop(((bigSepL ks (dOut m c) ∗ ow c 0) -∗ wp frame (wpE (defs₀ (F := F)) 𝒱₀ (c : Thread nD τ) none) Set.univ P Q)
          -∗ wp frame (wpE (defs₀ (F := F)) 𝒱₀ (c : Thread nD τ) none) Set.univ (drains c ks P) Q)
  | [] => by
    unfold drains
    simp only [List.foldr_nil, bigSepL_nil]
    iintro ⟨-, -, -, HO⟩ Hk
    iapply Hk
    isplitr; · iempintro
    iexact HO
  | k :: ks => by
    have ih := wp_drains (Q := Q) P ks
    unfold drains at ih ⊢
    simp only [List.foldr_cons, bigSepL_cons']
    iintro ⟨#HR, #Hlev, ⟨Hin, Hins⟩, HO⟩ Hk
    unfold dIn
    icases Hin with ⟨⟨Hc0, Hc2, Hc3⟩, Hat0, Hat2, Hat3⟩
    iapply (wp_wait_own m K c (.inr (0, k)) 0 0 (wait_zs c k) (Nat.zero_le _) (above_zero _)) $$ [Hc0 HO Hat0]
    · isplitr; · iexact HR
      isplitr; · iexact Hlev
      isplitl [Hc0]; · iexact Hc0
      isplitl [HO]; · iexact HO
      iexact Hat0
    iintro ⟨HO, Hat0, Hp⟩
    iapply (wp_wait_own m K c (.inr (2, k)) 0 0 (wait_xs c k) (Nat.zero_le _) (above_zero _)) $$ [Hc2 HO Hat2]
    · isplitr; · iexact HR
      isplitr; · iexact Hlev
      isplitl [Hc2]; · iexact Hc2
      isplitl [HO]; · iexact HO
      iexact Hat2
    iintro ⟨HO, Hat2, Ho⟩
    iapply (wp_wait_own m K c (.inr (3, k)) 3 0 (wait_xr c k) (le_refl 3) (above_zero _)) $$ [Hc3 HO Hat3]
    · isplitr; · iexact HR
      isplitr; · iexact Hlev
      isplitl [Hc3]; · iexact Hc3
      isplitl [HO]; · iexact HO
      iexact Hat3
    iintro ⟨HO, Hat3, Ho'⟩
    ihave Hp := (Entails.of_eq (pay_zs m c false k)) $$ Hp
    ihave Ho := (Entails.of_eq (pay_xs m c false k)) $$ Ho
    ihave Ho' := (Entails.of_eq (pay_xr m c false k)) $$ Ho'
    iapply ih $$ [Hins HO]
    · isplitr; · iexact HR
      isplitr; · iexact Hlev
      isplitl [Hins]; · iexact Hins
      iexact HO
    iintro ⟨Houts, HO⟩
    iapply Hk
    isplitl [Hat0 Hat2 Hat3 Hp Ho Ho' Houts]
    · isplitl [Hat0 Hat2 Hat3 Hp Ho Ho']
      · unfold dOut
        isplitl [Hat0 Hat2 Hat3]
        · isplitl [Hat0]; · iexact Hat0
          isplitl [Hat2]; · iexact Hat2
          iexact Hat3
        isplitl [Hp]; · iexact Hp
        isplitl [Ho]; · iexact Ho
        iexact Ho'
      iexact Houts
    iexact HO

end Loops

end Cert.Norm

end
-- ==== Proof.Body.lean ====
/- The body of a device, from its share of the protocol to its block of the result. -/
module

public import proofs.«01_k».proof.Proof.Steps

@[expose] public section

noncomputable section

namespace Cert.Norm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Memory in pieces -/

theorem all16 (Φ : Fin 16 → sProp 𝕄) : bigSep Finset.univ Φ = bigSepL chunks Φ :=
  bigSep_univ_eq_bigSepL chunks (by decide) (by decide) Φ

/-- The partial sums in main memory: the own rows, the sixteen chunks to send, the rest. -/
theorem arg0_split (c : Dev nD) :
    ((((c : Thread nD τ).loc main_arg0) ↦{fullShare} pAt m c : sProp 𝕄))
      ⊣⊢ iprop(rPts m c ∗ (bigSep Finset.univ fun k => pPts m c k)
        ∗ (((c : Thread nD τ).loc main_arg0) ↦[(Finset.univ \ (srcL c).view.set) \ allZ c]{fullShare} pAt m c)) := by
  refine (pointsTo_split_subset (Finset.subset_univ (srcL c).view.set)).trans ?_
  have hz : allZ c ⊆ Finset.univ \ (srcL c).view.set := fun i hi =>
    Finset.mem_sdiff.mpr ⟨Finset.mem_univ _, fun h => Finset.disjoint_left.mp (srcL_allZ c) h hi⟩
  have he : ((((c : Thread nD τ).loc main_arg0) ↦[allZ c]{fullShare} pAt m c : sProp 𝕄)) = bigSep Finset.univ fun k => pPts m c k :=
    pointsTo_biUnion (ℓ := (c : Thread nD τ).loc main_arg0) (q := fullShare) (f := pAt m c) Finset.univ (setZ c)
      fun k _ k' _ h => srcZ_disjoint c k k' h
  rw [← he]
  exact ⟨sep_mono_right (pointsTo_split_subset hz).1, sep_mono_right (pointsTo_split_subset hz).2⟩

/-- The landing buffer: its sixteen chunks. -/
theorem zbuf_split (c : Dev nD) (f : Buf (Elt F) ((c : Thread nD τ).loc cc0_scratch0)) :
    ((((c : Thread nD τ).loc cc0_scratch0) ↦{fullShare} f : sProp 𝕄)) = bigSep Finset.univ fun k => zPts c k f := by
  refine Eq.trans ?_ (pointsTo_biUnion (ℓ := (c : Thread nD τ).loc cc0_scratch0) (q := fullShare) (f := f) Finset.univ (fun k : Fin 16 => (dstZ k).view.set) fun k _ k' _ h => dstZ_disjoint k k' h)
  rw [dstZ_all]

/-- The result block: the sixteen chunks of each half. -/
theorem out_split (c : Dev nD) (f : Buf (Elt F) ((c : Thread nD τ).loc cc0_stg0_0)) :
    ((((c : Thread nD τ).loc cc0_stg0_0) ↦{fullShare} f : sProp 𝕄))
      ⊣⊢ iprop((bigSep Finset.univ fun k => oPts c c k f) ∗ bigSep Finset.univ fun k => oPts c (devX c) k f) := by
  have he (d : Dev nD) : ((((c : Thread nD τ).loc cc0_stg0_0) ↦[half d]{fullShare} f : sProp 𝕄)) = bigSep Finset.univ fun k => oPts c d k f :=
    pointsTo_biUnion (ℓ := (c : Thread nD τ).loc cc0_stg0_0) (q := fullShare) (f := f) Finset.univ (fun k : Fin 16 => (outK d k).view.set)
      fun k _ k' _ h => outK_disjoint d k k' h
  rw [← he, ← he]
  have hu := pointsTo_union (ℓ := ((c : Thread nD τ).loc cc0_stg0_0)) (q := fullShare) (f := f) (half_half c) (Ix := Unit) (Name := ℕ) (U := UU) (Lvl := ℕ)
  rw [half_union] at hu
  exact hu

theorem lbuf_eq (c : Dev nD) (f : Buf (Elt F) ((c : Thread nD τ).loc cc0_scratch1)) :
    lPts c f = ((((c : Thread nD τ).loc cc0_scratch1) ↦{fullShare} f : sProp 𝕄)) := by
  unfold lPts; rw [View.set_whole]
theorem gbuf_eq (c : Dev nD) (f : Buf (Elt F) ((c : Thread nD τ).loc cc0_scratch2)) :
    gbPts c f = ((((c : Thread nD τ).loc cc0_scratch2) ↦{fullShare} f : sProp 𝕄)) := by
  unfold gbPts; rw [View.set_whole]
theorem arg1_eq (c : Dev nD) :
    gPts m c = ((((c : Thread nD τ).loc main_arg1) ↦{fullShare} gAt m c : sProp 𝕄)) := by
  unfold gPts; rw [View.set_whole]

/-! ## The two local copies -/

theorem credit_row : lM.view.dmaCredit = NL := by unfold NL; rfl
theorem credit_gain : gbM.view.dmaCredit = NG := by unfold NG; rfl

theorem copied_row (c : Dev nD) (f : Buf (Elt F) ((c : Thread nD τ).loc cc0_scratch1)) :
    lPts c (lM.view.write (Elt F) f ((srcL c).view.read (Elt F) (pAt m c)) Finset.univ) = lPts c (lAt m c) :=
  congrArg (lPts c) (View.write_whole_univ cc0_scratch1 f _)
theorem copied_gain (c : Dev nD) (f : Buf (Elt F) ((c : Thread nD τ).loc cc0_scratch2)) :
    gbPts c (gbM.view.write (Elt F) f (gM.view.read (Elt F) (gAt m c)) Finset.univ) = gbPts c (gAt m c) :=
  congrArg (gbPts c) ((View.write_whole_univ cc0_scratch2 f _).trans (View.read_whole main_arg1 _))

section Steps

variable (K : Dev nD × Slot → ℕ) (c : Dev nD)

theorem wp_copy_row {α : Type} {Q : α → sProp 𝕄} {h1 h2 h3} {kk : PUnit → Prog (TpuEff nD τ sig (Elt F) Λ₀ .tc) α} :
    iprop(records m K ∗ rPts m c ∗ (∃ f, lPts c f) ∗ tok c sRow false)
      ⊢ iprop((crd c sRow -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (srcL c) (.here lM) (.dma cc0_scratch7.sem) h1 h2 h3) kk) Q) := by
  iintro ⟨#HR, Hs, ⟨%f, Hd⟩, Ht⟩ Hk
  iapply (Rounds.wp_copy_pointsTo 𝒱₀ ER (rd m) (c : Thread nD τ) none (κ := K (c, sRow)) (r := 0) (d := false)
      (src := srcL c) (dst := lM) (fs := pAt m c) (fd := f) (mem_own m c (.inl false)) () NL credit_row (amount_eq m c sRow false)
      (Entails.of_eq ((congrArg (fun P => iprop(P ∗ rPts m c)) (copied_row m c f)).trans (payload_eq m c sRow false).symm))) $$ [Hs Hd Ht]
  · isplitr; · iapply (inv_of m K (c, sRow)); iexact HR
    isplitl [Hs]; · iexact Hs
    isplitl [Hd]; · iexact Hd
    isplitl [Ht]; · iexact Ht
    iapply (reached_of m K (c, sRow)); iexact HR
  iintro Hc
  iapply Hk
  iexact Hc

theorem wp_copy_gain {α : Type} {Q : α → sProp 𝕄} {h1 h2 h3} {kk : PUnit → Prog (TpuEff nD τ sig (Elt F) Λ₀ .tc) α} :
    iprop(records m K ∗ gPts m c ∗ (∃ f, gbPts c f) ∗ tok c sGain false)
      ⊢ iprop((crd c sGain -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma gM (.here gbM) (.dma cc0_scratch8.sem) h1 h2 h3) kk) Q) := by
  iintro ⟨#HR, Hs, ⟨%f, Hd⟩, Ht⟩ Hk
  iapply (Rounds.wp_copy_pointsTo 𝒱₀ ER (rd m) (c : Thread nD τ) none (κ := K (c, sGain)) (r := 0) (d := false)
      (src := gM) (dst := gbM) (fs := gAt m c) (fd := f) (mem_own m c (.inl true)) () NG credit_gain (amount_eq m c sGain false)
      (Entails.of_eq ((congrArg (fun P => iprop(P ∗ gPts m c)) (copied_gain m c f)).trans (payload_eq m c sGain false).symm))) $$ [Hs Hd Ht]
  · isplitr; · iapply (inv_of m K (c, sGain)); iexact HR
    isplitl [Hs]; · iexact Hs
    isplitl [Hd]; · iexact Hd
    isplitl [Ht]; · iexact Ht
    iapply (reached_of m K (c, sGain)); iexact HR
  iintro Hc
  iapply Hk
  iexact Hc

theorem wait_row {h h'} (Kt : PUnit → sProp 𝕄) :
    wpE' (defs₀ (F := F)) 𝒱₀ (c : Thread nD τ) none ∅ Set.univ (.waitDma2 cc0_scratch7.sem (srcL c) lM h h') Kt
      = waitSpec (c : Thread nD τ) Set.univ (osem (.inl false)) (unitOf sRow) Kt :=
  (wpE_waitDma2_eq 𝒱₀ (c : Thread nD τ) none Set.univ Kt).trans (by rw [credit_row])
theorem wait_gain {h h'} (Kt : PUnit → sProp 𝕄) :
    wpE' (defs₀ (F := F)) 𝒱₀ (c : Thread nD τ) none ∅ Set.univ (.waitDma2 cc0_scratch8.sem gM gbM h h') Kt
      = waitSpec (c : Thread nD τ) Set.univ (osem (.inl true)) (unitOf sGain) Kt :=
  (wpE_waitDma2_eq 𝒱₀ (c : Thread nD τ) none Set.univ Kt).trans (by rw [credit_gain])

end Steps

/-! ## The barrier's payloads -/

/-- A device's landing buffer, by chunks at any contents; -/
def zGot (c : Dev nD) : sProp 𝕄 := bigSep Finset.univ fun k : Fin 16 => iprop(∃ f, zPts c k f)
/-- device `d`'s half of the result block in device `c`'s memory. -/
def xGot (c d : Dev nD) : sProp 𝕄 := bigSep Finset.univ fun k : Fin 16 => iprop(∃ f, oPts c d k f)

theorem pay_bar_z (c : Dev nD) : pay m c false sBar = zGot (devZ c) := rfl
theorem pay_bar_x (c : Dev nD) : pay m c true sBar = xGot (devX c) c := rfl
theorem pay_bar_to_z (c : Dev nD) : pay m (devZ c) false sBar = zGot c := (pay_bar_z m (devZ c)).trans (congrArg zGot (devZ_devZ c))
theorem pay_bar_to_x (c : Dev nD) : pay m (devX c) true sBar = xGot c (devX c) :=
  (pay_bar_x m (devX c)).trans (congrArg (fun e => xGot e (devX c)) (devX_devX c))

theorem zGot_intro (c : Dev nD) (f : Buf (Elt F) ((c : Thread nD τ).loc cc0_scratch0)) : (((c : Thread nD τ).loc cc0_scratch0) ↦{fullShare} f : sProp 𝕄) ⊢ zGot c := by
  rw [zbuf_split]; unfold zGot
  refine bigSep_mono fun k _ => show (zPts c k f : sProp 𝕄) ⊢ iprop(∃ f, zPts c k f) from ?_
  iintro H; iexists f; iexact H
theorem xGot_intro (c d : Dev nD) (f : Buf (Elt F) ((c : Thread nD τ).loc cc0_stg0_0)) : (bigSep Finset.univ fun k => oPts c d k f : sProp 𝕄) ⊢ xGot c d := by
  unfold xGot
  refine bigSep_mono fun k _ => show (oPts c d k f : sProp 𝕄) ⊢ iprop(∃ f, oPts c d k f) from ?_
  iintro H; iexists f; iexact H

/-! ## The body -/

/-- What a device starts with of the protocol: the standing facts, its places, the rights to the payments it makes,
    its credit. -/
def payToks (c : Dev nD) : sProp 𝕄 :=
  iprop(tok (devZ c) sBar false ∗ tok (devX c) sBar true ∗ tok c sRow false ∗ tok c sGain false
    ∗ (bigSep Finset.univ fun k => tok c (sZs k) false) ∗ (bigSep Finset.univ fun k => tok (devZ c) (sZr k) false)
    ∗ (bigSep Finset.univ fun k => tok c (sXs k) false) ∗ bigSep Finset.univ fun k => tok (devX c) (sXr k) false)
def credits (c : Dev nD) : sProp 𝕄 :=
  iprop(cred (tallyAt (kcell (c, sBar)) () 2) ∗ (bigSep Finset.univ fun k => crd c (sZr k)) ∗ bigSep Finset.univ fun k => crd c (sXr k))
def ghost (K : Dev nD × Slot → ℕ) (c : Dev nD) : sProp 𝕄 :=
  iprop(records m K ∗ (bigSep Finset.univ fun s : Slot => atStart c s) ∗ payToks c)

/-- The two arrays it reads, in main memory. -/
def args (c : Dev nD) : sProp 𝕄 :=
  iprop((((c : Thread nD τ).loc main_arg0) ↦{fullShare} pAt m c) ∗ (((c : Thread nD τ).loc main_arg1) ↦{fullShare} gAt m c))
/-- The three buffers of the kernel, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- A statement for each semaphore, one by one. -/
theorem slots (Φ : Slot → sProp 𝕄) : bigSep Finset.univ Φ
    = iprop(Φ sBar ∗ (Φ sRow ∗ Φ sGain) ∗ (bigSep Finset.univ fun k => Φ (sZs k)) ∗ (bigSep Finset.univ fun k => Φ (sZr k))
      ∗ (bigSep Finset.univ fun k => Φ (sXs k)) ∗ bigSep Finset.univ fun k => Φ (sXr k)) := by
  rw [bigSep_univ_sum, bigSep_univ_sum, bigSep_univ_prod,
    bigSep_univ_eq_bigSepL [()] (by decide) (by decide), bigSep_univ_eq_bigSepL [false, true] (by decide) (by decide),
    bigSep_univ_eq_bigSepL [(0 : Fin 4), 1, 2, 3] (by decide) (by decide)]
  rfl

/-- The protocol over, every counter is at zero. -/
theorem close_all (K : Dev nD × Slot → ℕ) (c : Dev nD) :
    iprop(records m K ∗ bigSep Finset.univ fun s : Slot => atEnd c s)
      ⊢ |={Set.univ}=> (bigSep Finset.univ fun s : Slot => semVal (kcell (c, s)) 0 : sProp 𝕄) := by
  refine ((sep_mono_left (BI.bigSep_of_persistent (Finset.univ : Finset Slot) (records m K))).trans ?_).trans (bigSep_fupd _ _)
  rw [← bigSep_sep']
  refine bigSep_mono fun s _ => show iprop(records m K ∗ atEnd c s) ⊢ |={Set.univ}=> (semVal (kcell (c, s)) 0 : sProp 𝕄) from ?_
  iintro ⟨#HR, Hat⟩
  iapply (Rounds.cell_close ER (rd m) (Set.mem_univ (K (c, s))) (fun h => h) (R := 0 + 1) (duties_later m (kcell (c, s)))) $$ [Hat]
  isplitr; · iapply (inv_of m K (c, s)); iexact HR
  iexact Hat

/-! ## What the loops take and leave, gathered -/

theorem zIn_all (c : Dev nD) : bigSepL chunks (zIn m c) = iprop(zGot (devZ c) ∗ (bigSep Finset.univ fun k => pPts m c k)
    ∗ (bigSep Finset.univ fun k => tok c (sZs k) false) ∗ bigSep Finset.univ fun k => tok (devZ c) (sZr k) false) := by
  rw [← all16]; unfold zIn zGot; rw [bigSep_sep', bigSep_sep', bigSep_sep']
theorem xIn_all (c : Dev nD) : bigSepL chunks (xIn (F := F) c) = iprop((bigSep Finset.univ fun k => crd c (sZr k)) ∗ (bigSep Finset.univ fun k => atStart c (sZr k))
    ∗ xGot c c ∗ xGot (devX c) c ∗ (bigSep Finset.univ fun k => tok c (sXs k) false) ∗ bigSep Finset.univ fun k => tok (devX c) (sXr k) false) := by
  rw [← all16]; unfold xIn xGot; rw [bigSep_sep', bigSep_sep', bigSep_sep', bigSep_sep', bigSep_sep']
theorem xOut_all (c : Dev nD) : bigSepL chunks (xOut m c) = iprop((bigSep Finset.univ fun k => atEnd c (sZr k))
    ∗ (bigSep Finset.univ fun k => zPts c k (zAt m c)) ∗ bigSep Finset.univ fun k => crd c (sXs k)) := by
  rw [← all16]; unfold xOut; rw [bigSep_sep', bigSep_sep']
theorem dIn_all (c : Dev nD) : bigSepL chunks (dIn (F := F) c)
    = iprop(((bigSep Finset.univ fun k => crd c (sZs k)) ∗ (bigSep Finset.univ fun k => crd c (sXs k)) ∗ bigSep Finset.univ fun k => crd c (sXr k))
      ∗ (bigSep Finset.univ fun k => atStart c (sZs k)) ∗ (bigSep Finset.univ fun k => atStart c (sXs k)) ∗ bigSep Finset.univ fun k => atStart c (sXr k)) := by
  rw [← all16]; unfold dIn; rw [bigSep_sep', bigSep_sep', bigSep_sep', bigSep_sep', bigSep_sep']
theorem dOut_all (c : Dev nD) : bigSepL chunks (dOut m c)
    = iprop(((bigSep Finset.univ fun k => atEnd c (sZs k)) ∗ (bigSep Finset.univ fun k => atEnd c (sXs k)) ∗ bigSep Finset.univ fun k => atEnd c (sXr k))
      ∗ (bigSep Finset.univ fun k => pPts m c k) ∗ (bigSep Finset.univ fun k => oPts c c k (outAt m c)) ∗ bigSep Finset.univ fun k => oPts c (devX c) k (outAt m c)) := by
  rw [← all16]; unfold dOut; rw [bigSep_sep', bigSep_sep', bigSep_sep', bigSep_sep', bigSep_sep']

/-- The load of the gains reads them whole. -/
theorem read_gain (c : Dev nD) :
    (gbM.view.readAt (Elt F) (Rect.unit (s := S1024) ![0] S1024.size inb_S1024_S1024_0).toLoadRect (gAt m c)) = gAt m c :=
  Memref.readAt_unit_zero (Elt F) cc0_scratch2 (funext fun a => by fin_cases a; rfl) _ _

set_option maxHeartbeats 1600000 in
/-- The body: from its share of the protocol, its arrays and its buffers, to the result block, every counter at zero. -/
theorem sound_body (K : Dev nD × Slot → ℕ) (c : Dev nD) (Q : PUnit → sProp 𝕄) :
    iprop((ghost m K c ∗ credits c ∗ levAts L lv ∗ args m c ∗ scratch c ∗ ow c (owe₀ c)
        ∗ ∃ f : Buf (Elt F) ((c : Thread nD τ).loc cc0_stg0_0), ((c : Thread nD τ).loc cc0_stg0_0) ↦{fullShare} f)
      ∗ (((bigSep Finset.univ fun s : Slot => semVal (kcell (c, s)) 0) ∗ args m c ∗ scratch c ∗ ow c 0
          ∗ (((c : Thread nD τ).loc cc0_stg0_0) ↦{fullShare} outAt m c)) -∗ Q ⟨⟩))
      ⊢ wp frame (wpE (defs₀ (F := F)) 𝒱₀ (c : Thread nD τ) none) Set.univ (prog (F := F)) Q := by
  unfold prog
  simp only [semSignalWord, semWaitWord, Prog.lift, Prog.bind_op, Prog.bind_ret, Prog.pure_eq_ret, wp_deviceId]
  unfold ghost credits args scratch payToks
  rw [slots (fun s => atStart c s)]
  iintro ⟨⟨⟨#HR, ⟨HaB, ⟨HaR, HaG⟩, HaZs, HaZr, HaXs, HaXr⟩, HtBz, HtBx, HtR, HtG, HtZs, HtZr, HtXs, HtXr⟩, ⟨HcB, HcZr, HcXr⟩, #Hlev,
    ⟨Ha0, Ha1⟩, ⟨⟨%fz, Hz⟩, ⟨%fl, Hl⟩, ⟨%fg, Hg⟩⟩, HO, ⟨%fo, Ho⟩⟩, Hk⟩
  -- the two local copies
  ihave H := ((arg0_split m c).1) $$ Ha0
  icases H with ⟨Hr, Hps, Hrest⟩
  iapply (wp_copy_row m K c) $$ [Hr Hl HtR]
  · isplitr; · iexact HR
    isplitl [Hr]; · iexact Hr
    isplitl [Hl]; · iexists fl; rw [lbuf_eq]; iexact Hl
    iexact HtR
  iintro HcR
  iapply (wp_copy_gain m K c) $$ [Ha1 Hg HtG]
  · isplitr; · iexact HR
    isplitl [Ha1]; · rw [arg1_eq]; iexact Ha1
    isplitl [Hg]; · iexists fg; rw [gbuf_eq]; iexact Hg
    iexact HtG
  iintro HcG
  -- the barrier: the landing buffer to the device across `z`, the other half of the result block to the one across `x`
  ihave Hz := (zGot_intro c fz) $$ Hz
  ihave H := ((out_split c fo).1) $$ Ho
  icases H with ⟨Ho, Hox⟩
  ihave Ho := (xGot_intro c c fo) $$ Ho
  ihave Hox := (xGot_intro c (devX c) fo) $$ Hox
  unfold ow
  icases HO with ⟨%W, HO⟩
  iapply (Rounds.wp_signal 𝒱₀ ER (rd m) (c : Thread nD τ) none (dst := (devZ c : Thread nD τ)) (κ := K (devZ c, sBar))
      (d := false) (mem_bar m (devZ c) false) ((amount_eq m (devZ c) sBar false).trans (by decide)) () (owe₁ c) rfl) $$ [HO HtBz Hz]
  · isplitr; · iapply (inv_of m K (devZ c, sBar)); iexact HR
    isplitl [HO]; · iexact HO
    isplitl [HtBz]; · iexact HtBz
    isplitl [Hz]; · iapply (Entails.of_eq ((payload_eq m (devZ c) sBar false).trans (pay_bar_to_z m c)).symm); iexact Hz
    iapply (reached_of m K (devZ c, sBar)); iexact HR
  iintro HO
  iapply (Rounds.wp_signal 𝒱₀ ER (rd m) (c : Thread nD τ) none (dst := (devX c : Thread nD τ)) (κ := K (devX c, sBar))
      (d := true) (mem_bar m (devX c) true) ((amount_eq m (devX c) sBar true).trans (by decide)) () (owe₂ c) rfl) $$ [HO HtBx Hox]
  · isplitr; · iapply (inv_of m K (devX c, sBar)); iexact HR
    isplitl [HO]; · iexact HO
    isplitl [HtBx]; · iexact HtBx
    isplitl [Hox]; · iapply (Entails.of_eq ((payload_eq m (devX c) sBar true).trans (pay_bar_to_x m c)).symm); iexact Hox
    iapply (reached_of m K (devX c, sBar)); iexact HR
  iintro HO
  iapply (Rounds.wp_wait_rest_token 𝒱₀ ER (rd m) (c : Thread nD τ) none (κ := K (c, sBar))
      (wpE_semWait_eq 𝒱₀ (c : Thread nD τ) none Set.univ) (Set.mem_univ _) () (O := owe₂ c) (W := W) (R := 0) (m := 0) (T := ∅)
      ((show 0 + (2#32).toNat = 2 by decide).trans (expect_bar m c).symm)) $$ [HcB HO HaB]
  · isplitr; · iapply (inv_of m K (c, sBar)); iexact HR
    isplitl [HcB]; · iexact HcB
    isplitl [HO]; · iexact HO
    isplitr
    · iapply (mayWait c (.reg barS) 1 (owe₂ c) (by rw [show ((c : Thread nD τ), (.reg barS : SemLoc sig)) = kcell (c, sBar) from rfl, lv_kcell]; exact le_refl 1)
        (above_owe₂ (by decide) c)); iexact Hlev
    iexact HaB
  iintro ⟨HO, HaB, -, Hpay⟩
  ihave H := (Entails.of_eq ((rest_bar m c).trans (congrArg₂ (fun P R => iprop(P ∗ R)) (pay_bar_z m c) (pay_bar_x m c)))) $$ Hpay
  icases H with ⟨Hdz, Hdx⟩
  -- the sends across `z`
  iapply (wp_sendsZ m K c (oweX c chunks) _ chunks) $$ [Hdz Hps HtZs HtZr HO]
  · isplitr; · iexact HR
    isplitr [HO]
    · rw [zIn_all]
      isplitl [Hdz]; · iexact Hdz
      isplitl [Hps]; · iexact Hps
      isplitl [HtZs] <;> iassumption
    iexists _; iexact HO
  iintro ⟨HcZs, HO⟩
  -- the gains and the own rows
  iapply (wp_wait_own m K c (.inl true) 0 (oweX c chunks) (wait_gain c) (Nat.zero_le _) (above_oweX (by decide) c _)) $$ [HcG HO HaG]
  · isplitr; · iexact HR
    isplitr; · iexact Hlev
    isplitl [HcG]; · iexact HcG
    isplitl [HO]; · iexact HO
    iexact HaG
  iintro ⟨HO, HaG, Hpay⟩
  ihave H := (Entails.of_eq (pay_gain m c false)) $$ Hpay
  icases H with ⟨Hg, Ha1⟩
  iapply (wp_load 𝒱₀ (c : Thread nD τ) none Set.univ (m := gbM) (S := gbM.view.set) (f := gAt m c) (by rw [View.set_whole]; exact Finset.subset_univ _)) $$ Hg
  iintro Hg
  rw [read_gain]
  iapply (wp_wait_own m K c (.inl false) 0 (oweX c chunks) (wait_row c) (Nat.zero_le _) (above_oweX (by decide) c _)) $$ [HcR HO HaR]
  · isplitr; · iexact HR
    isplitr; · iexact Hlev
    isplitl [HcR]; · iexact HcR
    isplitl [HO]; · iexact HO
    iexact HaR
  iintro ⟨HO, HaR, Hpay⟩
  ihave H := (Entails.of_eq (pay_row m c false)) $$ Hpay
  icases H with ⟨Hl, Hr⟩
  -- the rounds
  iapply (wp_rounds m K c _ chunks) $$ [Hl HcZr HaZr Ho Hdx HtXs HtXr HO]
  · isplitr; · iexact HR
    isplitr; · iexact Hlev
    isplitl [Hl]; · iexact Hl
    isplitr [HO]
    · rw [xIn_all]
      isplitl [HcZr]; · iexact HcZr
      isplitl [HaZr]; · iexact HaZr
      isplitl [Ho]; · iexact Ho
      isplitl [Hdx]; · iexact Hdx
      isplitl [HtXs] <;> iassumption
    iexact HO
  iintro ⟨Hl, Hout, HO⟩
  ihave H := (Entails.of_eq (xOut_all m c)) $$ Hout
  icases H with ⟨HaZr, Hz, HcXs⟩
  -- the drains
  iapply (wp_drains m K c _ chunks) $$ [HcZs HcXs HcXr HaZs HaXs HaXr HO]
  · isplitr; · iexact HR
    isplitr; · iexact Hlev
    isplitr [HO]
    · rw [dIn_all]
      isplitl [HcZs HcXs HcXr]
      · isplitl [HcZs]; · rw [all16]; iexact HcZs
        isplitl [HcXs] <;> iassumption
      isplitl [HaZs]; · iexact HaZs
      isplitl [HaXs] <;> iassumption
    iexact HO
  iintro ⟨Hout, HO⟩
  ihave H := (Entails.of_eq (dOut_all m c)) $$ Hout
  icases H with ⟨⟨HaZs, HaXs, HaXr⟩, Hps, Ho, Hox⟩
  -- every semaphore closed, the buffers whole again
  imod (close_all m K c) $$ [HaB HaR HaG HaZs HaZr HaXs HaXr] with Hsem
  · isplitr; · iexact HR
    rw [slots (fun s => atEnd c s)]
    isplitl [HaB]; · iexact HaB
    isplitl [HaR HaG]
    · isplitl [HaR] <;> iassumption
    isplitl [HaZs]; · iexact HaZs
    isplitl [HaZr]; · iexact HaZr
    isplitl [HaXs] <;> iassumption
  rw [wp_ret]
  imodintro
  iapply Hk
  isplitl [Hsem]; · iexact Hsem
  isplitl [Hr Hps Hrest Ha1]
  · isplitl [Hr Hps Hrest]
    · iapply ((arg0_split m c).2)
      isplitl [Hr]; · iexact Hr
      isplitl [Hps] <;> iassumption
    · rw [← arg1_eq]; iexact Ha1
  isplitl [Hz Hl Hg]
  · isplitl [Hz]; · iexists (zAt m c); rw [zbuf_split]; iexact Hz
    isplitl [Hl]; · iexists (lAt m c); rw [← lbuf_eq]; iexact Hl
    iexists (gAt m c); rw [← gbuf_eq]; iexact Hg
  isplitl [HO]; · iexact HO
  iapply ((out_split c (outAt m c)).2)
  isplitl [Ho] <;> iassumption

end Cert.Norm

end
-- ==== Proof.Launch.lean ====
/- The launch: the ghost state dealt to the devices, the credit each holds at the start, and the run of the whole
   machine. -/
module

public import proofs.«01_k».proof.Proof.Body
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.Pipeline.CollectiveSegs

@[expose] public section

noncomputable section

namespace Cert.Norm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds around its body -/

def start (c : Dev nD) : sProp 𝕄 := iprop((∃ K, ghost m K c) ∗ credits c ∗ levAts L lv ∗ args m c)
def zeros (c : Dev nD) : sProp 𝕄 := bigSep Finset.univ fun s : Slot => semVal (kcell (c, s)) 0
def before (c : Dev nD) : sProp 𝕄 := iprop(start m c ∗ scratch c)
def after (c : Dev nD) : sProp 𝕄 := iprop(zeros c ∗ args m c ∗ scratch c)

/-- The result window of device `c`: the block it ends with, what is held and owed before and after the body. -/
def dats (_ : Fin 1) (c : Dev nD) : Dat τ (Elt F) Unit ℕ UU ℕ cfg0 c where
  A w := m ((cfg0.win w).arr.view.loc (c : Thread nD τ))
  after w _ := match w with | ⟨0, _⟩ => outAt m c
  Φ t := match t with | ⟨0, _⟩ => before m c | ⟨_ + 1, _⟩ => after m c
  q _ := fullShare
  owed t := match t with | ⟨0, _⟩ => owe₀ c | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns
  simp only [Memref.view_whole, View.read_whole, View.set_whole]

set_option maxRecDepth 65536 in
set_option maxHeartbeats 4000000 in
/-- What the library asks of the body. -/
theorem body_obligation (c : Dev nD) : BodyObligation (dats (F := F) m 0 c) (defs₀ (F := F)) 𝒱₀ () Set.univ := fun t => by
  rw [fin_N0 t, bigSep_W0, bigSep_W0]
  simp only [owns_whole_eq]
  show iprop(before m c ∗ (dats m 0 c).owesAt () (t0_0 : Fin cfg0.N).castSucc
      ∗ ∃ d, ∃ f : Buf (Elt F) ((c : Thread nD τ).loc cc0_stg0_0), ⌜f = (dats m 0 c).before (0 : Fin 1) t0_0 d⌝ ∗ ((c : Thread nD τ).loc cc0_stg0_0) ↦{fullShare} f)
    ⊢ wp frame (wpE (defs₀ (F := F)) 𝒱₀ (c : Thread nD τ) none) Set.univ
    (cc0_body (F := F) pM (Memref.isWhole_whole _) gM (Memref.isWhole_whole _) oM (Memref.isWhole_whole _) zM (Memref.isWhole_whole _)
      lM (Memref.isWhole_whole _) gbM (Memref.isWhole_whole _) cc0_scratch3 cc0_scratch4 cc0_scratch5 cc0_scratch6 cc0_scratch7 cc0_scratch8)
    (fun _ => iprop(after m c ∗ (dats m 0 c).owesAt () (t0_0 : Fin cfg0.N).succ
      ∗ ∃ f : Buf (Elt F) ((c : Thread nD τ).loc cc0_stg0_0), ⌜f = outAt m c⌝ ∗ ((c : Thread nD τ).loc cc0_stg0_0) ↦{fullShare} f))
  rw [body_eq]
  unfold before start Dat.owesAt Pipeline.owesWithin
  iintro ⟨⟨⟨⟨%K, Hg⟩, Hcr, Hl, Ha⟩, Hs⟩, ⟨%W, -, Ho⟩, ⟨%d, %f, -, Hf⟩⟩
  iapply (sound_body m K c _)
  isplitl [Hg Hcr Hl Ha Hs Ho Hf]
  · isplitl [Hg]; · iexact Hg
    isplitl [Hcr]; · iexact Hcr
    isplitl [Hl]; · iexact Hl
    isplitl [Ha]; · iexact Ha
    isplitl [Hs]; · iexact Hs
    isplitl [Ho]; · (unfold ow; iexists W; iexact Ho)
    iexists f; iexact Hf
  unfold after zeros ow
  iintro ⟨Hz, Ha, Hs, ⟨%W', Ho⟩, Hf⟩
  isplitl [Hz Ha Hs]
  · isplitl [Hz]; · iexact Hz
    isplitl [Ha] <;> iassumption
  isplitl [Ho]
  · iexists W'
    isplitr; · ipureintro; exact fun _ _ => Or.inl trivial
    iexact Ho
  iexists _; isplitr; · (ipureintro; rfl)
  iexact Hf

/-! ## The ghost state at the launch -/

/-- The window's own semaphore is the transfer semaphore of number zero. -/
theorem num_stage : ∀ (w : Fin 1) (s : Fin (spec0 w).nbuf), num (.dma ((spec0 w).sem s)) = 0 := by decide

theorem ownSemFacts : Pipeline.OwnSemFacts cfg0.spec osem where
  isScoped := by
    intro k
    rcases k with (_ | _) | ⟨j, k⟩
    · rfl
    · rfl
    · revert j k; decide
  inj := osem_injective
  disj := by
    intro k w s h
    have hp := num_osem_pos k
    rw [h, num_stage] at hp
    exact Nat.lt_irrefl 0 hp

def cells : Finset (GSem nD τ sig) := Finset.univ.map ⟨kcell, kcell_injective⟩

/-- The payments to a device's semaphores: one to each, a second one to its barrier. -/
abbrev tokOf (cj : Dev nD × (Slot ⊕ Unit)) : GSem nD τ sig × ℕ × Bool := match cj.2 with
  | .inl s => (kcell (cj.1, s), 0, false)
  | .inr _ => (kcell (cj.1, sBar), 0, true)
theorem tokOf_injective : Function.Injective tokOf := by
  rintro ⟨c, s | u⟩ ⟨c', s' | u'⟩ h
  · have h1 : (c, s) = (c', s') := kcell_injective (congrArg Prod.fst h)
    have h2 : c = c' := congrArg Prod.fst h1
    have h3 : s = s' := congrArg Prod.snd h1
    rw [h2, h3]
  · exact absurd (congrArg (fun x => x.2.2) h) (fun h => by cases h)
  · exact absurd (congrArg (fun x => x.2.2) h) (fun h => by cases h)
  · have h1 : (c, sBar) = (c', sBar) := kcell_injective (congrArg Prod.fst h)
    have h2 : c = c' := congrArg Prod.fst h1
    rw [h2]
def duties : Finset (GSem nD τ sig × ℕ × Bool) := Finset.univ.map ⟨tokOf, tokOf_injective⟩

def u₀ : UU := (initOf (Pipeline.cells cfgs cellOf_inj) (Pipeline.launchToks cfgs cellOf_inj), initOf cells duties)

/-- The rights to pay device `c`'s semaphores, -/
def toks (c : Dev nD) : sProp 𝕄 := iprop((bigSep Finset.univ fun s : Slot => tok c s false) ∗ tok c sBar true)
/-- and all of the protocol that is made for its semaphores. -/
def G (c : Dev nD) : sProp 𝕄 :=
  iprop((bigSep Finset.univ fun s : Slot => roundState ER (rd m) (kcell (c, s)) 0)
    ∗ ((bigSep Finset.univ fun s : Slot => atStart c s) ∗ bigSep Finset.univ fun s : Slot => reached ER (kcell (c, s)) 0) ∗ toks c)
def G' (c : Dev nD) : sProp 𝕄 := iprop(∃ K, ghost m K c)

theorem over_cells (Φ : GSem nD τ sig → sProp 𝕄) :
    bigSep cells Φ = bigSep Finset.univ fun c : Dev nD => bigSep Finset.univ fun s : Slot => Φ (kcell (c, s)) := by
  unfold cells; rw [bigSep_map, bigSep_univ_prod]; rfl
theorem over_duties :
    bigSep duties (fun x => (dutyTok ER x.1 x.2.1 x.2.2 : sProp 𝕄)) = bigSep Finset.univ fun c : Dev nD => toks c := by
  unfold duties
  rw [bigSep_map, bigSep_univ_prod]
  refine bigSep_congr fun c _ => ?_
  rw [bigSep_univ_sum, bigSep_univ_eq_bigSepL [()] (by decide) (by decide)]
  rfl

theorem fund : BI.own (ER (initOf cells duties)) ⊢ (|==> bigSep Finset.univ (G m) : sProp 𝕄) := by
  iintro HX
  imod (Rounds.fund ER (rd m) cells duties) $$ HX with ⟨Hst, Hr, Hat, Htok⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_duties) $$ Htok
  unfold G; simp only [bigSep_sep']
  isplitl [Hst]; · iexact Hst
  isplitl [Hat Hr]
  · isplitl [Hat] <;> iassumption
  iexact Htok

/-- The barrier's is the launch's one semaphore that outlives the kernel. -/
theorem unscopedSems0_eq (c : Dev nD) : (unscopedSems0 c : sProp 𝕄) = semVal (kcell (c, sBar)) 0 := by
  unfold unscopedSems0; rw [bigSep_eq_bigSepL_of_eq [SemLoc.reg barS] (by decide) (by decide)]; rfl

theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  unfold zeros
  rw [bigSep_univ_sum, unscopedSems0_eq, bigSep_univ_eq_bigSepL [()] (by decide) (by decide)]
  rfl

/-- What becomes of a device's part of it: the invariants of its semaphores at some names. -/
def G₁ (c : Dev nD) : sProp 𝕄 :=
  iprop((bigSep Finset.univ fun s : Slot => iprop(∃ κ : ℕ, cellInv ER (rd m) κ (kcell (c, s))))
    ∗ ((bigSep Finset.univ fun s : Slot => atStart c s) ∗ bigSep Finset.univ fun s : Slot => reached ER (kcell (c, s)) 0) ∗ toks c)

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> G₁ m c := by
  unfold G G₁
  iintro ⟨Hos, Hus, Hst, Hrest⟩
  ihave Hv := (Entails.of_eq (zeros_eq (F := F) c).symm) $$ [Hos Hus]
  · isplitl [Hus] <;> iassumption
  imod (show iprop(zeros c ∗ bigSep Finset.univ fun s : Slot => roundState ER (rd m) (kcell (c, s)) 0)
      ⊢ (|={Set.univ}=> bigSep Finset.univ fun s : Slot => iprop(∃ κ : ℕ, cellInv ER (rd m) κ (kcell (c, s))) : sProp 𝕄) from by
        unfold zeros
        rw [← bigSep_sep']
        exact (bigSep_mono fun s _ => (Rounds.body_intro ER (rd m) (kcell (c, s))).trans inv_alloc).trans (bigSep_fupd _ _)) $$ [Hv Hst] with Hinv
  · isplitl [Hv] <;> iassumption
  imodintro
  isplitl [Hinv]; · iexact Hinv
  iexact Hrest

def zE : Dev nD ≃ Dev nD := ⟨devZ, devZ, devZ_devZ, devZ_devZ⟩
def xE : Dev nD ≃ Dev nD := ⟨devX, devX, devX_devX, devX_devX⟩

theorem toks_eq (c : Dev nD) : (toks c : sProp 𝕄)
    = iprop((tok c sBar false ∗ (tok c sRow false ∗ tok c sGain false) ∗ (bigSep Finset.univ fun k => tok c (sZs k) false)
        ∗ (bigSep Finset.univ fun k => tok c (sZr k) false) ∗ (bigSep Finset.univ fun k => tok c (sXs k) false)
        ∗ bigSep Finset.univ fun k => tok c (sXr k) false) ∗ tok c sBar true) := by
  unfold toks; rw [slots]

/-- Each right goes to the device that makes the payment. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_univ_equiv zE (fun c : Dev nD => (tok c sBar false : sProp 𝕄)),
    bigSep_univ_equiv xE (fun c : Dev nD => (tok c sBar true : sProp 𝕄)),
    bigSep_univ_equiv zE (fun c : Dev nD => (bigSep Finset.univ fun k => tok c (sZr k) false : sProp 𝕄)),
    bigSep_univ_equiv xE (fun c : Dev nD => (bigSep Finset.univ fun k => tok c (sXr k) false : sProp 𝕄))]
  iintro ⟨⟨H1, ⟨H2, H3⟩, H4, H5, H6, H7⟩, H8⟩
  isplitl [H1]; · iexact H1
  isplitl [H8]; · iexact H8
  isplitl [H2]; · iexact H2
  isplitl [H3]; · iexact H3
  isplitl [H4]; · iexact H4
  isplitl [H5]; · iexact H5
  isplitl [H6]; · iexact H6
  iexact H7

theorem regroup : (bigSep Finset.univ fun c : Dev nD => G₁ m c) ⊢ bigSep Finset.univ (G' m) := by
  unfold G₁
  rw [bigSep_sep', bigSep_sep', bigSep_sep', ← bigSep_univ_prod (fun cs : Dev nD × Slot => iprop(∃ κ : ℕ, cellInv ER (rd m) κ (kcell cs))),
    ← bigSep_univ_prod (fun cs : Dev nD × Slot => (reached ER (kcell cs) 0 : sProp 𝕄))]
  iintro ⟨HI, ⟨Hat, #HR⟩, Htok⟩
  ihave HK := (BI.bigSep_exists_pi Finset.univ (fun (cs : Dev nD × Slot) (κ : ℕ) => (cellInv ER (rd m) κ (kcell cs) : sProp 𝕄))) $$ HI
  icases HK with ⟨%K, #HI⟩
  ihave Htk := (toks_around (F := F)) $$ Htok
  ihave Hrec := (show iprop((bigSep Finset.univ fun cs : Dev nD × Slot => cellInv ER (rd m) (K cs) (kcell cs))
      ∗ bigSep Finset.univ fun cs : Dev nD × Slot => reached ER (kcell cs) 0) ⊢ (bigSep Finset.univ fun _ : Dev nD => records m K : sProp 𝕄) from
    BI.bigSep_of_persistent (Finset.univ : Finset (Dev nD)) (records m K)) $$ []
  · isplitl; · iexact HI
    iexact HR
  iapply (show iprop((bigSep Finset.univ fun _ : Dev nD => records m K) ∗ (bigSep Finset.univ fun c : Dev nD => bigSep Finset.univ fun s : Slot => atStart c s)
      ∗ bigSep Finset.univ fun c : Dev nD => payToks c) ⊢ (bigSep Finset.univ (G' m) : sProp 𝕄) from by
    rw [← bigSep_sep', ← bigSep_sep']
    refine bigSep_mono fun c _ => show iprop(records m K ∗ (bigSep Finset.univ fun s : Slot => atStart c s) ∗ payToks c) ⊢ (G' m c : sProp 𝕄) from ?_
    unfold G' ghost
    iintro H
    iexists K
    iexact H)
  isplitl [Hrec]; · iexact Hrec
  isplitl [Hat] <;> iassumption

theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => alloc m c).trans (bigSep_fupd _ _)).trans (BI.fupd_mono (regroup m))

/-! ## The credit at the launch -/

theorem credits_z (c : Dev nD) : ∀ ks : List (Fin 16),
    (Pipeline.launchCred (fun d => oweZ d ks) c : sProp 𝕄) ⊢ bigSepL ks fun k => crd c (sZr k)
  | [] => by
    show (Pipeline.launchCred (fun _ => 0) c : sProp 𝕄) ⊢ _
    rw [Pipeline.launchCred_zero]; exact .rfl
  | k :: ks => by
    show (Pipeline.launchCred (fun d => oweZ d ks + tallyAt (kcell (devZ d, sZr k)) () N) c : sProp 𝕄) ⊢ _
    rw [Pipeline.launchCred_add, bigSepL_cons]
    refine show _ ⊢ iprop(crd c (sZr k) ∗ bigSepL ks fun k => crd c (sZr k)) from ?_
    iintro ⟨H, Hk⟩
    ihave Hk := (Pipeline.launchCred_tallyAt (csem (sZr k)) devZ devZ devZ_devZ devZ_devZ () N c) $$ Hk
    isplitl [Hk]; · iexact Hk
    iapply (credits_z c ks); iexact H
theorem credits_x (c : Dev nD) : ∀ ks : List (Fin 16),
    (Pipeline.launchCred (fun d => oweX d ks) c : sProp 𝕄) ⊢ bigSepL ks fun k => crd c (sXr k)
  | [] => by
    show (Pipeline.launchCred (fun _ => 0) c : sProp 𝕄) ⊢ _
    rw [Pipeline.launchCred_zero]; exact .rfl
  | k :: ks => by
    show (Pipeline.launchCred (fun d => oweX d ks + tallyAt (kcell (devX d, sXr k)) () N) c : sProp 𝕄) ⊢ _
    rw [Pipeline.launchCred_add, bigSepL_cons]
    refine show _ ⊢ iprop(crd c (sXr k) ∗ bigSepL ks fun k => crd c (sXr k)) from ?_
    iintro ⟨H, Hk⟩
    ihave Hk := (Pipeline.launchCred_tallyAt (csem (sXr k)) devX devX devX_devX devX_devX () N c) $$ Hk
    isplitl [Hk]; · iexact Hk
    iapply (credits_x c ks); iexact H

theorem credits_intro (c : Dev nD) : (Pipeline.launchCred owe₀ c : sProp 𝕄) ⊢ credits c := by
  show (Pipeline.launchCred (fun d => ((oweX d chunks + oweZ d chunks) + tallyAt (kcell (devX d, sBar)) () 1) + tallyAt (kcell (devZ d, sBar)) () 1) c : sProp 𝕄) ⊢ _
  rw [Pipeline.launchCred_add, Pipeline.launchCred_add, Pipeline.launchCred_add]
  unfold credits
  iintro ⟨⟨⟨HX, HZ⟩, H1⟩, H2⟩
  ihave H1 := (Pipeline.launchCred_tallyAt (csem sBar) devX devX devX_devX devX_devX () 1 c) $$ H1
  ihave H2 := (Pipeline.launchCred_tallyAt (csem sBar) devZ devZ devZ_devZ devZ_devZ () 1 c) $$ H2
  isplitl [H1 H2]
  · iapply ((cred_add (tallyAt (kcell (c, sBar)) () 1) (tallyAt (kcell (c, sBar)) () 1)).2.trans (Entails.of_eq (congrArg cred (tallyAt_add (kcell (c, sBar)) () 1 1))))
    isplitl [H1] <;> iassumption
  isplitl [HZ]
  · rw [all16]; iapply (credits_z c chunks); iexact HZ
  · rw [all16]; iapply (credits_x c chunks); iexact HX

/-! ## In and out -/

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = args m c from unscopedRest0_eq c _]
  iintro ⟨Ha, Hlev, Hcr, -, HG⟩
  ihave Hc := (credits_intro (F := F) c) $$ Hcr
  imodintro
  unfold start G'
  isplitl
  · isplitl [HG]; · iexact HG
    isplitl [Hc]; · iexact Hc
    isplitl [Hlev] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, show (Pipeline.scopedRest cfg0.spec c : sProp 𝕄) = scratch c from scopedRest0_eq c]
  unfold before
  iintro ⟨Hs, -, Hr⟩
  isplitl [Hs] <;> iassumption

theorem leave (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = after m c from rfl, show (Pipeline.scopedRest cfg0.spec c : sProp 𝕄) = scratch c from scopedRest0_eq c]
  unfold after
  rw [zeros_eq]
  iintro ⟨⟨Hu, Ho⟩, Ha, Hs⟩
  isplitl [Hu Ha]
  · isplitl [Hu] <;> iassumption
  isplitl [Ho] <;> iassumption

/-- The window's own semaphore lies lowest. -/
theorem lv_stage (c : Dev nD) (w : Fin cfg0.W) (s : Fin (cfg0.spec w).nbuf) : lv ((c : Thread nD τ), .dma ((cfg0.spec w).sem s)) () = 0 := by
  unfold lv
  split
  · rename_i o h
    have h' := csem_of_slotOf h
    rcases o with _ | o
    · cases h'
    · have hp := num_osem_pos o
      rw [show osem o = _ from h', show num (.dma ((cfg0.spec w).sem s)) = 0 from num_stage w s] at hp
      exact absurd hp (Nat.lt_irrefl 0)
  · rfl

theorem waits (c : Dev nD) : (levAts L lv : sProp 𝕄) ⊢ Pipeline.cellsWaits cfgs (dats m) () 0 c :=
  Pipeline.cellsWaits_intro cfgs (dats m) () 0 c fun w s t =>
    mayWait c _ 0 _ (le_of_eq (lv_stage c w s)) (by
      rcases t with ⟨_ | _, ht⟩
      · exact above_owe₀ c
      · exact above_zero 0)

/-! ## The run -/

theorem args_read (c : Dev nD) (s' : Phys nD τ sig (Elt F)) :
    iprop(args m c ∗ SI s') ⊢ (iprop(⌜s'.mem.mem ((c : Thread nD τ).loc main_arg0) = pAt m c ∧ s'.mem.mem ((c : Thread nD τ).loc main_arg1) = gAt m c⌝ ∗ SI s') : sProp 𝕄) := by
  unfold args
  iintro ⟨⟨H0, H1⟩, HSI⟩
  icombine HSI H0 gives %h0
  icombine HSI H1 gives %h1
  isplitr
  · ipureintro; exact ⟨Buf.eq_of_forall_mem_univ h0, Buf.eq_of_forall_mem_univ h1⟩
  · iexact HSI

/-- What a run leaves: on each device its block of the result, its arguments as they were. -/
def Final (s : MemSt nD τ sig (Elt F)) : Prop := ∀ c : Dev nD,
  s.mem ((c : Thread nD τ).loc main_v1) = outAt m c
    ∧ s.mem ((c : Thread nD τ).loc main_arg0) = pAt m c ∧ s.mem ((c : Thread nD τ).loc main_arg1) = gAt m c

/-- The result array ends with the block the body leaves. -/
theorem result_eq (c : Dev nD) : (dats m 0 c).arrAt (0 : Fin cfg0.W) cfg0.N = outAt m c := by
  refine (dats m 0 c).arrAt_eq_of_after_last (0 : Fin 1) t0_0 (by decide +kernel) _ fun j => ?_
  blk_simp
  rfl

set_option maxRecDepth 65536 in
set_option maxHeartbeats 4000000 in
/-- Whatever the float values, from any memory with its counters at zero: every fair execution ends, with the result
    as computed, the arguments as they were, every counter at zero. -/
theorem run_main : θ_run (defs (F := F)) (onTc (τ := τ) (main (F := F))) ⟨m, fun _ => 0, ρ⟩ (fun r => Final m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := enter m) (hout := leave m)
    (QY := fun c s => (∀ sm : SemLoc sig, sm.isScoped .tc = false → s.sem ((c.tc : Thread nD τ), sm) = 0)
      ∧ s.mem ((c : Thread nD τ).loc main_arg0) = pAt m c ∧ s.mem ((c : Thread nD τ).loc main_arg1) = gAt m c)
    (hY := fun c s' => by
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, ha⟩
      iexact HSI)
    (hQ := fun _ h hs => ⟨fun c => ⟨((h c).1 0).trans (result_eq m c), (h c).2.2.2⟩, sem_eq_zero hs fun c => (h c).2.2.1⟩)

end Cert.Norm

end
-- ==== Proof.Value.lean ====
/- What a row becomes, over the extended reals.

   The kernel multiplies the sum of a row's squares by 1/1024 and the row by a reciprocal root; the
   reference divides by 1024 and by a root. `rowNorm` is the reference's way of writing it, and the two
   agree at every row, with no condition on what it holds: the quantity under the root is a sum of squares,
   at least zero, plus a positive number, so it is positive or infinite, and in either case to multiply by the
   reciprocal root is to divide by the root. -/
module

public import proofs.«01_k».proof.Proof.Contents
public import proofs.«01_k».proof.Proof.Gen.ReferenceIdeal
public import Idealize.ShloMosaic.PureOps.Ideal.Laws
public import Idealize.ShloMosaic.Lib.Pointwise
public import Idealize.ShloMosaic.Lib.Pointwise.IndexBridge
public import Idealize.ShloMosaic.Lib.IdealHost
public import Idealize.ShloMosaic.Lib.ValueLayout
public import Idealize.ShloMosaic.Lib.Layout

@[expose] public section

set_option maxRecDepth 65536

noncomputable section

namespace Cert.Norm

open Idealize.ShloMosaic Idealize.ShloMosaic.TcCoe
open Idealize.SL Idealize.SL.Sem

section Reference

open Cert.ReferenceIdeal Cert.ReferenceIdeal.Gen

/-- The reference's result. -/
def refOut (p : FVec Ideal S2x2048x1024 .f32) (g : FVec Ideal S1024 .f32) :
    FVec Ideal S2048x1024 .f32 :=
  mulf (Host.divf (Host.reduceAdd p (constant S_ .f32 0x00000000#32) reducesTo_S2x2048x1024_S2048x1024_d0 h_S_)
    (broadcastInDim S2048x1024 ![0, 1] bcast_S2048x1_S2048x1024_0_1 (Host.sqrt (addf (Host.divf
      (broadcastInDim S2048x1 ![0] bcast_S2048_S2048x1_0 (Host.reduceAdd
        (mulf (Host.reduceAdd p (constant S_ .f32 0x00000000#32) reducesTo_S2x2048x1024_S2048x1024_d0 h_S_)
          (Host.reduceAdd p (constant S_ .f32 0x00000000#32) reducesTo_S2x2048x1024_S2048x1024_d0 h_S_))
        (constant S_ .f32 0x00000000#32) reducesTo_S2048x1024_S2048_d1 h_S_))
      (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))

end Reference

open Cert.KernelIdeal Cert.KernelIdeal.Gen

/-! ## The constants -/

theorem recip_width : Ideal.ofBits .f32 0x3A800000#32 = ((1 / 1024 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem eps_pos : 0 < Ideal.ofBits .f32 0x358637BD#32 := by
  simp [Ideal.ofBits, Ideal.ieee, -EReal.coe_mul]

/-! ## Squares, means and roots -/

theorem sq_nonneg_ereal (x : EReal) : 0 ≤ x * x := by
  rcases le_total 0 x with h | h
  · exact mul_nonneg h h
  · have h' : 0 ≤ -x := EReal.neg_nonneg.mpr h
    have := mul_nonneg h' h'
    rwa [neg_mul_neg] at this

/-- The mean square is what the sum of squares is divided by 1024 or multiplied by its reciprocal. -/
theorem mean_eq (x : EReal) : x * Ideal.ofBits .f32 0x3A800000#32 = Ideal.div x (Ideal.ofBits .f32 0x44800000#32) := by
  rw [recip_width, width, Ideal.div_coe (by norm_num)]

/-- What stands under the root is positive. -/
theorem under_pos (s : Fin 1024 → EReal) :
    0 < Ideal.div (∑ k, s k * s k) (Ideal.ofBits .f32 0x44800000#32) + Ideal.ofBits .f32 0x358637BD#32 := by
  rw [← mean_eq, recip_width]
  have h : (0 : EReal) ≤ (∑ k, s k * s k) * ((1 / 1024 : ℝ) : EReal) :=
    mul_nonneg (Finset.sum_nonneg fun k _ => sq_nonneg_ereal (s k)) (EReal.coe_nonneg.mpr (by norm_num))
  exact lt_of_lt_of_le eps_pos (le_add_of_nonneg_left h)

/-- Dividing by the root of a positive number is multiplying by its reciprocal root. -/
theorem mul_rsqrt {t : EReal} (ht : 0 < t) (y : EReal) : y * Ideal.rsqrt t = Ideal.div y (Ideal.sqrt t) := by
  induction t with
  | bot => exact absurd ht (by simp)
  | top =>
    show y * 0 = if (⊤ : EReal) = 0 then _ else y * (⊤ : EReal)⁻¹
    rw [if_neg EReal.top_ne_zero, EReal.inv_top]
  | coe r =>
    have hr : 0 < r := EReal.coe_pos.mp ht
    rw [Ideal.rsqrt_coe, Ideal.sqrt_coe, if_neg hr.le.not_gt, if_neg hr.ne', if_neg hr.le.not_gt,
      Ideal.div_coe (Real.sqrt_pos.mpr hr).ne', one_div]

/-! ## A row -/

/-- Entry `j` of a row `s` divided by the root of its mean square plus a small number, times the gain. -/
def rowNorm (s g : Fin 1024 → EReal) (j : Fin 1024) : EReal :=
  Ideal.div (s j) (Ideal.sqrt (Ideal.div (∑ k, s k * s k) (Ideal.ofBits .f32 0x44800000#32) + Ideal.ofBits .f32 0x358637BD#32)) * g j

/-- What the kernel makes of a row. -/
theorem normK_apply (g : Vec Ideal S1024 .f32) (a b : Vec Ideal S32x1024 .f32) (r : Fin 32) (j : Fin 1024) :
    normK g a b (ix2 r j) = rowNorm (fun k => a (ix2 r k) + b (ix2 r k)) (fun k => g (ix1 k)) j := by
  unfold rowNorm
  rw [← mul_rsqrt (under_pos _), ← mean_eq]
  unfold normK
  pointwise [k0_pay6, k0_pay1]

/-- A row of it. -/
theorem refOut_apply (p : FVec Ideal Cert.ReferenceIdeal.S2x2048x1024 .f32) (g : FVec Ideal Cert.ReferenceIdeal.S1024 .f32)
    (r : Fin 2048) (j : Fin 1024) :
    refOut p g (ix2 r j) = rowNorm (fun k => p (ix3 (0 : Fin 2) r k) + p (ix3 (1 : Fin 2) r k)) (fun k => g (ix1 k)) j := by
  unfold rowNorm
  pointwise [refOut]
  simp only [Fin.sum_univ_two]

/-! ## The rows a device reads -/

variable (m : (ℓ : Loc nD τ sig) → Buf (Elt Ideal) ℓ)

/-- A device's partial sums, as an array of extended reals. -/
abbrev pV (c : Dev nD) : FVec Ideal S1x2048x1024 .f32 := pAt m c

/-- Row `q` of the half a device computes, as a row of its partial sums. -/
theorem srcL_row (c : Dev nD) (q : Fin 512) (j : Fin 1024) (R : Fin 2048) (hR : R.val = 1024 * (c.val % 2) + 512 * (c.val / 4) + q.val) :
    (srcL c).view.emb (ix2 q j) = ix3 (0 : Fin 1) R j := by
  show (Rect.unit (s := S1x2048x1024) (k0_off1 c) S1x512x1024.size _).emb (Shape.reshapeEquiv _ (ix2 q j)) = _
  rw [ix2_eq_valueIdx, ValueIdx.reshapeEquiv_ix2_1ab]
  funext i
  refine Fin.ext ?_
  show k0_off1 c i + 1 * _ = _
  refine (congrArg (· + _) (congrFun (off1_eq c) i)).trans ?_
  fin_cases i
  · rfl
  · show 1024 * (c.val % 2) + 512 * (c.val / 4) + 1 * q.val = R.val
    omega
  · show 0 + 1 * j.val = j.val
    omega

theorem chunk_apply (k : Fin 16) (v : Vec Ideal S512x1024 .f32) (a : Fin 32) (j : Fin 1024) :
    chunk k v (ix2 a j) = v (ix2 (⟨32 * k.val + a.val, by have := a.isLt; have := k.isLt; omega⟩ : Fin 512) j) := by
  refine congrArg v ?_
  funext i; fin_cases i
  · exact Fin.ext (by show 32 * k.val + 1 * a.val = 32 * k.val + a.val; omega)
  · exact Fin.ext (by show 0 + 1 * j.val = j.val; omega)

/-- A chunk of the half a device computes: row `a` of chunk `k` comes from row `R` of the two partial sums. -/
theorem valAt_apply (c : Dev nD) (k : Fin 16) (a : Fin 32) (j : Fin 1024) (R : Fin 2048)
    (hR : R.val = 1024 * (c.val % 2) + 512 * (c.val / 4) + 32 * k.val + a.val) :
    valAt m c k (ix2 a j) = rowNorm (fun l => pV m c (ix3 (0 : Fin 1) R l) + pV m (devZ c) (ix3 (0 : Fin 1) R l))
      (fun l => gAt m c (ix1 l)) j := by
  have e : ∀ (d : Dev nD) (l : Fin 1024), chunk k ((srcL c).view.read (Elt Ideal) (pAt m d)) (ix2 a l) = pAt m d (ix3 (0 : Fin 1) R l) := fun d l => by
    rw [chunk_apply]
    exact congrArg (pAt m d) (srcL_row c _ l R (by simp only; omega))
  unfold valAt
  rw [normK_apply]
  unfold lAt zAt
  simp only [e]

/-! ## Blocks of the whole arrays -/

/-- A device's block of the partial sums is the one its coordinate along `z` names. -/
theorem argBlock (P : FVec Ideal Cert.ReferenceIdeal.S2x2048x1024 .f32) (c : Dev nD) (R : Fin 2048) (j : Fin 1024) (z : Fin 2) (hz : z.val = c.val % 2) :
    (Layout.blockN ⟨3, ![1, 2048, 1024]⟩ ⟨3, ![2, 2048, 1024]⟩ (Layout.meshBlock [2, 2, 2] ![[2], [], []] c) P) (ix3 (0 : Fin 1) R j)
      = P (ix3 z R j) := by
  rw [Layout.blockN_apply]
  refine congrArg P ?_
  funext i
  refine Fin.ext ?_
  rw [Layout.TilesN.idx_val]
  fin_cases i
  · show (c.val / 1 % 2 * 1 + 0) * 1 + 0 = z.val
    omega
  · show 0 * 2048 + R.val = R.val
    omega
  · show 0 * 1024 + j.val = j.val
    omega

/-- and so is its block of the result. -/
theorem resBlock (V : FVec Ideal Cert.ReferenceIdeal.S2048x1024 .f32) (c : Dev nD) (r : Fin 1024) (j : Fin 1024) (R : Fin 2048)
    (hR : R.val = 1024 * (c.val % 2) + r.val) :
    (Layout.blockN ⟨2, ![1024, 1024]⟩ ⟨2, ![2048, 1024]⟩ (Layout.meshBlock [2, 2, 2] ![[2], []] c) V) (ix2 r j) = V (ix2 R j) := by
  rw [Layout.blockN_apply]
  refine congrArg V ?_
  funext i
  refine Fin.ext ?_
  rw [Layout.TilesN.idx_val]
  fin_cases i
  · show (c.val / 1 % 2 * 1 + 0) * 1024 + r.val = R.val
    omega
  · show 0 * 1024 + j.val = j.val
    omega

/-! ## The result -/

/-- What the kernel leaves on a device is that device's block of the reference's result. -/
theorem outAt_eq (P : FVec Ideal Cert.ReferenceIdeal.S2x2048x1024 .f32) (G : FVec Ideal Cert.ReferenceIdeal.S1024 .f32)
    (hP : ∀ c, pAt m c = Layout.blockN ⟨3, ![1, 2048, 1024]⟩ ⟨3, ![2, 2048, 1024]⟩ (Layout.meshBlock [2, 2, 2] ![[2], [], []] c) P)
    (hG : ∀ c, gAt m c = G) (c : Dev nD) :
    outAt m c = Layout.blockN ⟨2, ![1024, 1024]⟩ ⟨2, ![2048, 1024]⟩ (Layout.meshBlock [2, 2, 2] ![[2], []] c) (refOut P G) := by
  funext i
  obtain ⟨r, j, rfl⟩ : ∃ (r : Fin 1024) (j : Fin 1024), i = ix2 r j := ⟨i 0, i 1, eq_ix2 i⟩
  have hr := r.isLt
  have hc := lt8 c
  have hx := devX_val c
  have hz := fun d : Dev nD => devZ_val d
  have hR : 1024 * (c.val % 2) + r.val < 2048 := by omega
  rw [resBlock (refOut P G) c r j ⟨_, hR⟩ rfl, refOut_apply]
  obtain ⟨d, hd, hd2, hd4⟩ : ∃ d : Dev nD, owner c (r.val / 512) = d ∧ d.val % 2 = c.val % 2 ∧ d.val / 4 = r.val / 512 := by
    unfold owner
    by_cases h : r.val / 512 = c.val / 4
    · exact ⟨c, if_pos h, rfl, h.symm⟩
    · exact ⟨devX c, if_neg h, by omega, by omega⟩
  show valAt m (owner c (r.val / 512)) ⟨r.val % 512 / 32, _⟩ (ValueIdx.ix2 (⟨r.val % 32, _⟩ : Fin 32) j) = _
  rw [hd, ← ix2_eq_valueIdx, valAt_apply m d ⟨r.val % 512 / 32, by omega⟩ ⟨r.val % 32, by omega⟩ j ⟨_, hR⟩ (by simp only; omega)]
  have hzd := hz d
  have h8 := lt8 d
  rw [hG d, show pV m d = _ from hP d, show pV m (devZ d) = _ from hP (devZ d)]
  refine congrArg (fun s => rowNorm s _ j) ?_
  funext l
  rcases Nat.mod_two_eq_zero_or_one d.val with h | h
  · rw [argBlock P d _ l 0 h.symm, argBlock P (devZ d) _ l 1 (by show 1 = _; omega)]
  · rw [argBlock P d _ l 1 h.symm, argBlock P (devZ d) _ l 0 (by show 0 = _; omega)]
    exact add_comm _ _

end Cert.Norm

end
-- ==== Proof.lean ====
/- The five claims.

   The two programs' frames and the value claim come from one theorem about the run of the kernel
   (`Cert.Norm.run_main`, for any float values), the reference's from its own run. -/
module

public import proofs.«01_k».proof.Defs
public import proofs.«01_k».proof.Proof.Launch
public import proofs.«01_k».proof.Proof.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Lib.Quiescent
public import Idealize.ShloMosaic.Adequacy
public import Idealize.ShloMosaic.Init

@[expose] public section

set_option maxRecDepth 65536
set_option maxHeartbeats 4000000

noncomputable section

namespace Cert.Proof

open Idealize.ShloMosaic Idealize.SL.Sem

section Kernel

open Cert.KernelIdeal

/-- For any float values the kernel runs to the end, leaves its arguments alone and every semaphore at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (Cert.Norm.run_main m ρ)

end Kernel

/-- The two programs have the same text, so their kernels' bodies agree, -/
theorem bodies_eq {F : FTy → Type} [FloatOps F] : Cert.Kernel.defs₀ (F := F) = Cert.KernelIdeal.defs₀ (F := F) := by
  funext p l x
  cases p with
  | tc =>
    obtain ⟨l, hl⟩ := l
    cases l with
    | zero => rfl
    | succ n => exact absurd hl (by omega)
  | _ => rfl

/-- and so do their tables of bodies. -/
theorem tables_eq {F : FTy → Type} [FloatOps F] : Cert.Kernel.defs (F := F) = Cert.KernelIdeal.defs (F := F) := by
  unfold Cert.Kernel.defs Cert.KernelIdeal.defs
  rw [bodies_eq]
  rfl

/-- So the kernel keeps its frame on the machine's words, -/
theorem frame_kernel : Cert.quiescent_Kernel := fun m ρ _ => by
  rw [tables_eq]
  exact frame_any (F := Bits) m ρ

/-- and over the extended reals, -/
theorem frame_kernelIdeal : Cert.quiescent_KernelIdeal := fun m ρ _ => frame_any (F := Ideal) m ρ

/-- and so does the reference, which has no semaphores. -/
theorem frame_referenceIdeal : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- Over the extended reals each device's result is its block of the reference's. -/
theorem value : Cert.algebraic_KernelIdeal_ReferenceIdeal := fun m ρ m' ρ' _ hio =>
  ⟨Cert.Norm.refOut _ _,
    (θ_run Cert.KernelIdeal.defs _ _).mono
      (fun _ h c => ⟨(h.1 c).1.trans (Cert.Norm.outAt_eq m _ _ (fun d => (hio d).1) (fun d => (hio d).2) c), (h.1 c).2⟩)
      (Cert.Norm.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
